-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x176x304x96 : Shape := ⟨4, ![12, 176, 304, 96]⟩
abbrev S1 : Shape := ⟨1, ![1]⟩
abbrev S12x88x152x256 : Shape := ⟨4, ![12, 88, 152, 256]⟩
abbrev S96x256 : Shape := ⟨2, ![96, 256]⟩
abbrev S256 : Shape := ⟨1, ![256]⟩
abbrev S3x3x256x256 : Shape := ⟨4, ![3, 3, 256, 256]⟩
abbrev S12x88x152x8x2x16 : Shape := ⟨6, ![12, 88, 152, 8, 2, 16]⟩
abbrev S12x88x152x2x16x8 : Shape := ⟨6, ![12, 88, 152, 2, 16, 8]⟩
abbrev S96x8x2x16 : Shape := ⟨4, ![96, 8, 2, 16]⟩
abbrev S96x2x16x8 : Shape := ⟨4, ![96, 2, 16, 8]⟩
abbrev S8x2x16 : Shape := ⟨3, ![8, 2, 16]⟩
abbrev S2x16x8 : Shape := ⟨3, ![2, 16, 8]⟩
abbrev S1x256 : Shape := ⟨2, ![1, 256]⟩
abbrev S9x256x256 : Shape := ⟨3, ![9, 256, 256]⟩
abbrev S9x256x8x2x16 : Shape := ⟨5, ![9, 256, 8, 2, 16]⟩
abbrev S9x256x2x16x8 : Shape := ⟨5, ![9, 256, 2, 16, 8]⟩
abbrev S12x176x96x304 : Shape := ⟨4, ![12, 176, 96, 304]⟩
abbrev S12x176x304x256 : Shape := ⟨4, ![12, 176, 304, 256]⟩
abbrev S12x176x8x304 : Shape := ⟨4, ![12, 176, 8, 304]⟩
abbrev S1x4x96x304 : Shape := ⟨4, ![1, 4, 96, 304]⟩
abbrev S1x2x152x256 : Shape := ⟨4, ![1, 2, 152, 256]⟩
abbrev S1x4x304x256 : Shape := ⟨4, ![1, 4, 304, 256]⟩
abbrev S1x4x8x304 : Shape := ⟨4, ![1, 4, 8, 304]⟩
abbrev S2x6x320x128 : Shape := ⟨4, ![2, 6, 320, 128]⟩
abbrev S2x304x128 : Shape := ⟨3, ![2, 304, 128]⟩
abbrev S1x1x96x304 : Shape := ⟨4, ![1, 1, 96, 304]⟩
abbrev S96x304 : Shape := ⟨2, ![96, 304]⟩
abbrev S304x96 : Shape := ⟨2, ![304, 96]⟩
abbrev S304x256 : Shape := ⟨2, ![304, 256]⟩
abbrev S1x1x152x128 : Shape := ⟨4, ![1, 1, 152, 128]⟩
abbrev S152x128 : Shape := ⟨2, ![152, 128]⟩
abbrev S1x152x128 : Shape := ⟨3, ![1, 152, 128]⟩
abbrev S1x304x128 : Shape := ⟨3, ![1, 304, 128]⟩
abbrev S304x128 : Shape := ⟨2, ![304, 128]⟩
abbrev S16x256 : Shape := ⟨2, ![16, 256]⟩
abbrev S320x256 : Shape := ⟨2, ![320, 256]⟩
abbrev S320x128 : Shape := ⟨2, ![320, 128]⟩
abbrev S320x128x1 : Shape := ⟨3, ![320, 128, 1]⟩
abbrev S1x1x304x256 : Shape := ⟨4, ![1, 1, 304, 256]⟩
abbrev S1x1x304x128 : Shape := ⟨4, ![1, 1, 304, 128]⟩
abbrev S128x304 : Shape := ⟨2, ![128, 304]⟩
abbrev S8x304 : Shape := ⟨2, ![8, 304]⟩
abbrev S1x1x8x304 : Shape := ⟨4, ![1, 1, 8, 304]⟩
abbrev S1x1x320x128 : Shape := ⟨4, ![1, 1, 320, 128]⟩
abbrev S1x256x256 : Shape := ⟨3, ![1, 256, 256]⟩
abbrev S256x256 : Shape := ⟨2, ![256, 256]⟩

abbrev nBuf : Space → Nat
  | .hbm => 35
  | .vmem => 19
  | .smem => 1
  | _ => 0

abbrev bufTy : (tb : Table) → Fin (tcTables nBuf tb) → BufTy
  | .hbm, ⟨0, _⟩ => ⟨S12x176x304x96, .fp8e4m3⟩
  | .hbm, ⟨1, _⟩ => ⟨S1, .f32⟩
  | .hbm, ⟨2, _⟩ => ⟨S12x88x152x256, .f32⟩
  | .hbm, ⟨3, _⟩ => ⟨S96x256, .fp8e4m3⟩
  | .hbm, ⟨4, _⟩ => ⟨S256, .f32⟩
  | .hbm, ⟨5, _⟩ => ⟨S256, .f32⟩
  | .hbm, ⟨6, _⟩ => ⟨S3x3x256x256, .fp8e4m3⟩
  | .hbm, ⟨7, _⟩ => ⟨S256, .f32⟩
  | .hbm, ⟨8, _⟩ => ⟨S256, .f32⟩
  | .hbm, ⟨9, _⟩ => ⟨S12x88x152x8x2x16, .f32⟩
  | .hbm, ⟨10, _⟩ => ⟨S12x88x152x2x16x8, .f32⟩
  | .hbm, ⟨11, _⟩ => ⟨S12x88x152x256, .f32⟩
  | .hbm, ⟨12, _⟩ => ⟨S96x8x2x16, .fp8e4m3⟩
  | .hbm, ⟨13, _⟩ => ⟨S96x2x16x8, .fp8e4m3⟩
  | .hbm, ⟨14, _⟩ => ⟨S96x256, .fp8e4m3⟩
  | .hbm, ⟨15, _⟩ => ⟨S8x2x16, .f32⟩
  | .hbm, ⟨16, _⟩ => ⟨S2x16x8, .f32⟩
  | .hbm, ⟨17, _⟩ => ⟨S256, .f32⟩
  | .hbm, ⟨18, _⟩ => ⟨S1x256, .f32⟩
  | .hbm, ⟨19, _⟩ => ⟨S8x2x16, .f32⟩
  | .hbm, ⟨20, _⟩ => ⟨S2x16x8, .f32⟩
  | .hbm, ⟨21, _⟩ => ⟨S256, .f32⟩
  | .hbm, ⟨22, _⟩ => ⟨S1x256, .f32⟩
  | .hbm, ⟨23, _⟩ => ⟨S9x256x256, .fp8e4m3⟩
  | .hbm, ⟨24, _⟩ => ⟨S9x256x256, .fp8e4m3⟩
  | .hbm, ⟨25, _⟩ => ⟨S9x256x8x2x16, .fp8e4m3⟩
  | .hbm, ⟨26, _⟩ => ⟨S9x256x2x16x8, .fp8e4m3⟩
  | .hbm, ⟨27, _⟩ => ⟨S9x256x256, .fp8e4m3⟩
  | .hbm, ⟨28, _⟩ => ⟨S9x256x256, .fp8e4m3⟩
  | .hbm, ⟨29, _⟩ => ⟨S12x176x96x304, .fp8e4m3⟩
  | .hbm, ⟨30, _⟩ => ⟨S1x256, .f32⟩
  | .hbm, ⟨31, _⟩ => ⟨S1x256, .f32⟩
  | .hbm, ⟨32, _⟩ => ⟨S12x176x304x256, .bf16⟩
  | .hbm, ⟨33, _⟩ => ⟨S12x176x304x256, .fp8e4m3⟩
  | .hbm, ⟨34, _⟩ => ⟨S12x176x8x304, .f32⟩
  | .local _ .vmem, ⟨0, _⟩ => ⟨S1x4x96x304, .fp8e4m3⟩
  | .local _ .vmem, ⟨1, _⟩ => ⟨S1x4x96x304, .fp8e4m3⟩
  | .local _ .vmem, ⟨2, _⟩ => ⟨S1x2x152x256, .f32⟩
  | .local _ .vmem, ⟨3, _⟩ => ⟨S1x2x152x256, .f32⟩
  | .local _ .vmem, ⟨4, _⟩ => ⟨S96x256, .fp8e4m3⟩
  | .local _ .vmem, ⟨5, _⟩ => ⟨S1x256, .f32⟩
  | .local _ .vmem, ⟨6, _⟩ => ⟨S1x256, .f32⟩
  | .local _ .vmem, ⟨7, _⟩ => ⟨S9x256x256, .fp8e4m3⟩
  | .local _ .vmem, ⟨8, _⟩ => ⟨S1x256, .f32⟩
  | .local _ .vmem, ⟨9, _⟩ => ⟨S1x256, .f32⟩
  | .local _ .vmem, ⟨10, _⟩ => ⟨S1x4x304x256, .bf16⟩
  | .local _ .vmem, ⟨11, _⟩ => ⟨S1x4x304x256, .bf16⟩
  | .local _ .vmem, ⟨12, _⟩ => ⟨S1x4x304x256, .fp8e4m3⟩
  | .local _ .vmem, ⟨13, _⟩ => ⟨S1x4x304x256, .fp8e4m3⟩
  | .local _ .vmem, ⟨14, _⟩ => ⟨S1x4x8x304, .f32⟩
  | .local _ .vmem, ⟨15, _⟩ => ⟨S1x4x8x304, .f32⟩
  | .local _ .vmem, ⟨16, _⟩ => ⟨S2x6x320x128, .f32⟩
  | .local _ .vmem, ⟨17, _⟩ => ⟨S2x6x320x128, .f32⟩
  | .local _ .vmem, ⟨18, _⟩ => ⟨S2x304x128, .f32⟩
  | .local _ .smem, ⟨0, _⟩ => ⟨S1, .f32⟩
  | _, _ => ⟨S12x176x304x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![529], ![false]⟩

def k0_cond2 (i : grid0.Coords) : BitVec 1 :=
  let arg0 : BitVec 32 := BitVec.ofNat 32 (i 0).val
  let c2_i32 : BitVec 32 := 2#32
  let v11 : BitVec 32 := Scalar.remsi arg0 c2_i32
  let c0_i32_6 : BitVec 32 := 0#32
  let v12 : BitVec 1 := Scalar.cmpi .eq v11 c0_i32_6
  let v13 : BitVec 32 := Scalar.extui v12
  let c0_i32_7 : BitVec 32 := 0#32
  let v14 : BitVec 1 := Scalar.cmpi .ne v13 c0_i32_7
  v14

def k0_off1 (i : grid0.Coords) (c7_i32 : BitVec 32) : Fin 4 → Nat :=
  let c0_338 : Index := 0#32
  let c0_339 : Index := 0#32
  let arg0 : BitVec 32 := BitVec.ofNat 32 (i 0).val
  let c0_i32 : BitVec 32 := 0#32
  let v0 : BitVec 32 := Scalar.minsi arg0 c0_i32
  let v798 : BitVec 32 := Scalar.addi v0 c7_i32
  let v799 : Index := Scalar.indexCast v798
  let c0_340 : Index := 0#32
  ![0, 0, v799.toNat, 0]
def k0_off2 (i : grid0.Coords) (c7_i32_341 : BitVec 32) : Fin 4 → Nat :=
  let c1_342 : Index := 1#32
  let c0_343 : Index := 0#32
  let arg0 : BitVec 32 := BitVec.ofNat 32 (i 0).val
  let c0_i32 : BitVec 32 := 0#32
  let v0 : BitVec 32 := Scalar.minsi arg0 c0_i32
  let v802 : BitVec 32 := Scalar.addi v0 c7_i32_341
  let v803 : Index := Scalar.indexCast v802
  let c0_344 : Index := 0#32
  ![1, 0, v803.toNat, 0]
def k0_off3 (i : grid0.Coords) (c7_i32_372 : BitVec 32) : Fin 4 → Nat :=
  let c0_373 : Index := 0#32
  let c1_374 : Index := 1#32
  let arg0 : BitVec 32 := BitVec.ofNat 32 (i 0).val
  let c0_i32 : BitVec 32 := 0#32
  let v0 : BitVec 32 := Scalar.minsi arg0 c0_i32
  let v840 : BitVec 32 := Scalar.addi v0 c7_i32_372
  let v841 : Index := Scalar.indexCast v840
  let c0_375 : Index := 0#32
  ![0, 1, v841.toNat, 0]
def k0_off4 (i : grid0.Coords) (c7_i32_376 : BitVec 32) : Fin 4 → Nat :=
  let c1_377 : Index := 1#32
  let c1_378 : Index := 1#32
  let arg0 : BitVec 32 := BitVec.ofNat 32 (i 0).val
  let c0_i32 : BitVec 32 := 0#32
  let v0 : BitVec 32 := Scalar.minsi arg0 c0_i32
  let v844 : BitVec 32 := Scalar.addi v0 c7_i32_376
  let v845 : Index := Scalar.indexCast v844
  let c0_379 : Index := 0#32
  ![1, 1, v845.toNat, 0]
def k0_off5 (i : grid0.Coords) (c7_i32_408 : BitVec 32) : Fin 4 → Nat :=
  let c0_409 : Index := 0#32
  let c2_410 : Index := 2#32
  let arg0 : BitVec 32 := BitVec.ofNat 32 (i 0).val
  let c0_i32 : BitVec 32 := 0#32
  let v0 : BitVec 32 := Scalar.minsi arg0 c0_i32
  let v882 : BitVec 32 := Scalar.addi v0 c7_i32_408
  let v883 : Index := Scalar.indexCast v882
  let c0_411 : Index := 0#32
  ![0, 2, v883.toNat, 0]
def k0_off6 (i : grid0.Coords) (c7_i32_412 : BitVec 32) : Fin 4 → Nat :=
  let c1_413 : Index := 1#32
  let c2_414 : Index := 2#32
  let arg0 : BitVec 32 := BitVec.ofNat 32 (i 0).val
  let c0_i32 : BitVec 32 := 0#32
  let v0 : BitVec 32 := Scalar.minsi arg0 c0_i32
  let v886 : BitVec 32 := Scalar.addi v0 c7_i32_412
  let v887 : Index := Scalar.indexCast v886
  let c0_415 : Index := 0#32
  ![1, 2, v887.toNat, 0]
def k0_off7 (i : grid0.Coords) (c7_i32_523 : BitVec 32) : Fin 4 → Nat :=
  let c0_524 : Index := 0#32
  let c3_525 : Index := 3#32
  let arg0 : BitVec 32 := BitVec.ofNat 32 (i 0).val
  let c0_i32 : BitVec 32 := 0#32
  let v0 : BitVec 32 := Scalar.minsi arg0 c0_i32
  let v1021 : BitVec 32 := Scalar.addi v0 c7_i32_523
  let v1022 : Index := Scalar.indexCast v1021
  let c0_526 : Index := 0#32
  ![0, 3, v1022.toNat, 0]
def k0_off8 (i : grid0.Coords) (c7_i32_527 : BitVec 32) : Fin 4 → Nat :=
  let c1_528 : Index := 1#32
  let c3_529 : Index := 3#32
  let arg0 : BitVec 32 := BitVec.ofNat 32 (i 0).val
  let c0_i32 : BitVec 32 := 0#32
  let v0 : BitVec 32 := Scalar.minsi arg0 c0_i32
  let v1025 : BitVec 32 := Scalar.addi v0 c7_i32_527
  let v1026 : Index := Scalar.indexCast v1025
  let c0_530 : Index := 0#32
  ![1, 3, v1026.toNat, 0]
def k0_off9 (i : grid0.Coords) (c7_i32_640 : BitVec 32) : Fin 4 → Nat :=
  let c0_641 : Index := 0#32
  let c4_642 : Index := 4#32
  let arg0 : BitVec 32 := BitVec.ofNat 32 (i 0).val
  let c0_i32 : BitVec 32 := 0#32
  let v0 : BitVec 32 := Scalar.minsi arg0 c0_i32
  let v1160 : BitVec 32 := Scalar.addi v0 c7_i32_640
  let v1161 : Index := Scalar.indexCast v1160
  let c0_643 : Index := 0#32
  ![0, 4, v1161.toNat, 0]
def k0_off10 (i : grid0.Coords) (c7_i32_644 : BitVec 32) : Fin 4 → Nat :=
  let c1_645 : Index := 1#32
  let c4_646 : Index := 4#32
  let arg0 : BitVec 32 := BitVec.ofNat 32 (i 0).val
  let c0_i32 : BitVec 32 := 0#32
  let v0 : BitVec 32 := Scalar.minsi arg0 c0_i32
  let v1164 : BitVec 32 := Scalar.addi v0 c7_i32_644
  let v1165 : Index := Scalar.indexCast v1164
  let c0_647 : Index := 0#32
  ![1, 4, v1165.toNat, 0]
def k0_off11 (i : grid0.Coords) (c7_i32_757 : BitVec 32) : Fin 4 → Nat :=
  let c0_758 : Index := 0#32
  let c5_759 : Index := 5#32
  let arg0 : BitVec 32 := BitVec.ofNat 32 (i 0).val
  let c0_i32 : BitVec 32 := 0#32
  let v0 : BitVec 32 := Scalar.minsi arg0 c0_i32
  let v1299 : BitVec 32 := Scalar.addi v0 c7_i32_757
  let v1300 : Index := Scalar.indexCast v1299
  let c0_760 : Index := 0#32
  ![0, 5, v1300.toNat, 0]
def k0_off12 (i : grid0.Coords) (c7_i32_761 : BitVec 32) : Fin 4 → Nat :=
  let c1_762 : Index := 1#32
  let c5_763 : Index := 5#32
  let arg0 : BitVec 32 := BitVec.ofNat 32 (i 0).val
  let c0_i32 : BitVec 32 := 0#32
  let v0 : BitVec 32 := Scalar.minsi arg0 c0_i32
  let v1303 : BitVec 32 := Scalar.addi v0 c7_i32_761
  let v1304 : Index := Scalar.indexCast v1303
  let c0_764 : Index := 0#32
  ![1, 5, v1304.toNat, 0]
def k0_cond3 (i : grid0.Coords) : BitVec 1 :=
  let arg0 : BitVec 32 := BitVec.ofNat 32 (i 0).val
  let c2_i32_8 : BitVec 32 := 2#32
  let v15 : BitVec 32 := Scalar.remsi arg0 c2_i32_8
  let c1_i32 : BitVec 32 := 1#32
  let v16 : BitVec 1 := Scalar.cmpi .eq v15 c1_i32
  let v17 : BitVec 32 := Scalar.extui v16
  let c0_i32_9 : BitVec 32 := 0#32
  let v18 : BitVec 1 := Scalar.cmpi .ne v17 c0_i32_9
  v18

def k0_off13 (i : grid0.Coords) (c7_i32 : BitVec 32) : Fin 4 → Nat :=
  let c0_338 : Index := 0#32
  let c0_339 : Index := 0#32
  let arg0 : BitVec 32 := BitVec.ofNat 32 (i 0).val
  let c0_i32 : BitVec 32 := 0#32
  let v0 : BitVec 32 := Scalar.minsi arg0 c0_i32
  let v798 : BitVec 32 := Scalar.addi v0 c7_i32
  let v799 : Index := Scalar.indexCast v798
  let c0_340 : Index := 0#32
  ![0, 0, v799.toNat, 0]
def k0_off14 (i : grid0.Coords) (c7_i32_341 : BitVec 32) : Fin 4 → Nat :=
  let c1_342 : Index := 1#32
  let c0_343 : Index := 0#32
  let arg0 : BitVec 32 := BitVec.ofNat 32 (i 0).val
  let c0_i32 : BitVec 32 := 0#32
  let v0 : BitVec 32 := Scalar.minsi arg0 c0_i32
  let v802 : BitVec 32 := Scalar.addi v0 c7_i32_341
  let v803 : Index := Scalar.indexCast v802
  let c0_344 : Index := 0#32
  ![1, 0, v803.toNat, 0]
def k0_off15 (i : grid0.Coords) (c7_i32_372 : BitVec 32) : Fin 4 → Nat :=
  let c0_373 : Index := 0#32
  let c1_374 : Index := 1#32
  let arg0 : BitVec 32 := BitVec.ofNat 32 (i 0).val
  let c0_i32 : BitVec 32 := 0#32
  let v0 : BitVec 32 := Scalar.minsi arg0 c0_i32
  let v840 : BitVec 32 := Scalar.addi v0 c7_i32_372
  let v841 : Index := Scalar.indexCast v840
  let c0_375 : Index := 0#32
  ![0, 1, v841.toNat, 0]
def k0_off16 (i : grid0.Coords) (c7_i32_376 : BitVec 32) : Fin 4 → Nat :=
  let c1_377 : Index := 1#32
  let c1_378 : Index := 1#32
  let arg0 : BitVec 32 := BitVec.ofNat 32 (i 0).val
  let c0_i32 : BitVec 32 := 0#32
  let v0 : BitVec 32 := Scalar.minsi arg0 c0_i32
  let v844 : BitVec 32 := Scalar.addi v0 c7_i32_376
  let v845 : Index := Scalar.indexCast v844
  let c0_379 : Index := 0#32
  ![1, 1, v845.toNat, 0]
def k0_off17 (i : grid0.Coords) (c7_i32_408 : BitVec 32) : Fin 4 → Nat :=
  let c0_409 : Index := 0#32
  let c2_410 : Index := 2#32
  let arg0 : BitVec 32 := BitVec.ofNat 32 (i 0).val
  let c0_i32 : BitVec 32 := 0#32
  let v0 : BitVec 32 := Scalar.minsi arg0 c0_i32
  let v882 : BitVec 32 := Scalar.addi v0 c7_i32_408
  let v883 : Index := Scalar.indexCast v882
  let c0_411 : Index := 0#32
  ![0, 2, v883.toNat, 0]
def k0_off18 (i : grid0.Coords) (c7_i32_412 : BitVec 32) : Fin 4 → Nat :=
  let c1_413 : Index := 1#32
  let c2_414 : Index := 2#32
  let arg0 : BitVec 32 := BitVec.ofNat 32 (i 0).val
  let c0_i32 : BitVec 32 := 0#32
  let v0 : BitVec 32 := Scalar.minsi arg0 c0_i32
  let v886 : BitVec 32 := Scalar.addi v0 c7_i32_412
  let v887 : Index := Scalar.indexCast v886
  let c0_415 : Index := 0#32
  ![1, 2, v887.toNat, 0]
def k0_off19 (i : grid0.Coords) (c7_i32_523 : BitVec 32) : Fin 4 → Nat :=
  let c0_524 : Index := 0#32
  let c3_525 : Index := 3#32
  let arg0 : BitVec 32 := BitVec.ofNat 32 (i 0).val
  let c0_i32 : BitVec 32 := 0#32
  let v0 : BitVec 32 := Scalar.minsi arg0 c0_i32
  let v1021 : BitVec 32 := Scalar.addi v0 c7_i32_523
  let v1022 : Index := Scalar.indexCast v1021
  let c0_526 : Index := 0#32
  ![0, 3, v1022.toNat, 0]
def k0_off20 (i : grid0.Coords) (c7_i32_527 : BitVec 32) : Fin 4 → Nat :=
  let c1_528 : Index := 1#32
  let c3_529 : Index := 3#32
  let arg0 : BitVec 32 := BitVec.ofNat 32 (i 0).val
  let c0_i32 : BitVec 32 := 0#32
  let v0 : BitVec 32 := Scalar.minsi arg0 c0_i32
  let v1025 : BitVec 32 := Scalar.addi v0 c7_i32_527
  let v1026 : Index := Scalar.indexCast v1025
  let c0_530 : Index := 0#32
  ![1, 3, v1026.toNat, 0]
def k0_off21 (i : grid0.Coords) (c7_i32_640 : BitVec 32) : Fin 4 → Nat :=
  let c0_641 : Index := 0#32
  let c4_642 : Index := 4#32
  let arg0 : BitVec 32 := BitVec.ofNat 32 (i 0).val
  let c0_i32 : BitVec 32 := 0#32
  let v0 : BitVec 32 := Scalar.minsi arg0 c0_i32
  let v1160 : BitVec 32 := Scalar.addi v0 c7_i32_640
  let v1161 : Index := Scalar.indexCast v1160
  let c0_643 : Index := 0#32
  ![0, 4, v1161.toNat, 0]
def k0_off22 (i : grid0.Coords) (c7_i32_644 : BitVec 32) : Fin 4 → Nat :=
  let c1_645 : Index := 1#32
  let c4_646 : Index := 4#32
  let arg0 : BitVec 32 := BitVec.ofNat 32 (i 0).val
  let c0_i32 : BitVec 32 := 0#32
  let v0 : BitVec 32 := Scalar.minsi arg0 c0_i32
  let v1164 : BitVec 32 := Scalar.addi v0 c7_i32_644
  let v1165 : Index := Scalar.indexCast v1164
  let c0_647 : Index := 0#32
  ![1, 4, v1165.toNat, 0]
def k0_off23 (i : grid0.Coords) (c7_i32_757 : BitVec 32) : Fin 4 → Nat :=
  let c0_758 : Index := 0#32
  let c5_759 : Index := 5#32
  let arg0 : BitVec 32 := BitVec.ofNat 32 (i 0).val
  let c0_i32 : BitVec 32 := 0#32
  let v0 : BitVec 32 := Scalar.minsi arg0 c0_i32
  let v1299 : BitVec 32 := Scalar.addi v0 c7_i32_757
  let v1300 : Index := Scalar.indexCast v1299
  let c0_760 : Index := 0#32
  ![0, 5, v1300.toNat, 0]
def k0_off24 (i : grid0.Coords) (c7_i32_761 : BitVec 32) : Fin 4 → Nat :=
  let c1_762 : Index := 1#32
  let c5_763 : Index := 5#32
  let arg0 : BitVec 32 := BitVec.ofNat 32 (i 0).val
  let c0_i32 : BitVec 32 := 0#32
  let v0 : BitVec 32 := Scalar.minsi arg0 c0_i32
  let v1303 : BitVec 32 := Scalar.addi v0 c7_i32_761
  let v1304 : Index := Scalar.indexCast v1303
  let c0_764 : Index := 0#32
  ![1, 5, v1304.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c527_i32 : BitVec 32 := 527#32
  let v0 : BitVec 32 := Scalar.minsi arg0 c527_i32
  let c44_i32 : BitVec 32 := 44#32
  let v1 : BitVec 32 := Scalar.divsi v0 c44_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c44_i32 c0_i32_1
  let v8 : BitVec 32 := Scalar.extui v7
  let c0_i32_2 : BitVec 32 := 0#32
  let v9 : BitVec 1 := Scalar.cmpi .slt c44_i32 c0_i32_2
  let v10 : BitVec 32 := Scalar.extui v9
  let v11 : BitVec 32 := Scalar.subi v8 v10
  let v12 : BitVec 1 := Scalar.cmpi .ne v6 v11
  let v13 : BitVec 32 := Scalar.remsi v0 c44_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c44_i32_4 : BitVec 32 := 44#32
  let c0_i32_5 : BitVec 32 := 0#32
  let v18 : BitVec 1 := Scalar.cmpi .eq c44_i32_4 c0_i32_5
  let c1_i32_6 : BitVec 32 := 1#32
  let v19 : BitVec 32 := Scalar.select v18 c1_i32_6 c44_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, v27.toNat, c0_i32_10.toNat, c0_i32_11.toNat]

def cc0_transform_2 (i : grid0.Coords) : Fin 4 → Nat :=
  let arg0 : BitVec 32 := BitVec.ofNat 32 (i 0).val
  let c527_i32 : BitVec 32 := 527#32
  let v0 : BitVec 32 := Scalar.minsi arg0 c527_i32
  let c44_i32 : BitVec 32 := 44#32
  let v1 : BitVec 32 := Scalar.divsi v0 c44_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c44_i32 c0_i32_1
  let v8 : BitVec 32 := Scalar.extui v7
  let c0_i32_2 : BitVec 32 := 0#32
  let v9 : BitVec 1 := Scalar.cmpi .slt c44_i32 c0_i32_2
  let v10 : BitVec 32 := Scalar.extui v9
  let v11 : BitVec 32 := Scalar.subi v8 v10
  let v12 : BitVec 1 := Scalar.cmpi .ne v6 v11
  let v13 : BitVec 32 := Scalar.remsi v0 c44_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c44_i32_4 : BitVec 32 := 44#32
  let c0_i32_5 : BitVec 32 := 0#32
  let v18 : BitVec 1 := Scalar.cmpi .eq c44_i32_4 c0_i32_5
  let c1_i32_6 : BitVec 32 := 1#32
  let v19 : BitVec 32 := Scalar.select v18 c1_i32_6 c44_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, v27.toNat, c0_i32_10.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c527_i32 : BitVec 32 := 527#32
  let v2 : BitVec 32 := Scalar.minsi v1 c527_i32
  let c44_i32 : BitVec 32 := 44#32
  let v3 : BitVec 32 := Scalar.divsi v2 c44_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c44_i32 c0_i32_2
  let v10 : BitVec 32 := Scalar.extui v9
  let c0_i32_3 : BitVec 32 := 0#32
  let v11 : BitVec 1 := Scalar.cmpi .slt c44_i32 c0_i32_3
  let v12 : BitVec 32 := Scalar.extui v11
  let v13 : BitVec 32 := Scalar.subi v10 v12
  let v14 : BitVec 1 := Scalar.cmpi .ne v8 v13
  let v15 : BitVec 32 := Scalar.remsi v2 c44_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c44_i32_6 : BitVec 32 := 44#32
  let c0_i32_7 : BitVec 32 := 0#32
  let v20 : BitVec 1 := Scalar.cmpi .eq c44_i32_6 c0_i32_7
  let c1_i32_8 : BitVec 32 := 1#32
  let v21 : BitVec 32 := Scalar.select v20 c1_i32_8 c44_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v19.toNat, v29.toNat, c0_i32_12.toNat, c0_i32_13.toNat]

def cc0_transform_10 (i : grid0.Coords) : Fin 4 → Nat :=
  let arg0 : BitVec 32 := BitVec.ofNat 32 (i 0).val
  let c527_i32 : BitVec 32 := 527#32
  let v0 : BitVec 32 := Scalar.minsi arg0 c527_i32
  let c44_i32 : BitVec 32 := 44#32
  let v1 : BitVec 32 := Scalar.divsi v0 c44_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c44_i32 c0_i32_1
  let v8 : BitVec 32 := Scalar.extui v7
  let c0_i32_2 : BitVec 32 := 0#32
  let v9 : BitVec 1 := Scalar.cmpi .slt c44_i32 c0_i32_2
  let v10 : BitVec 32 := Scalar.extui v9
  let v11 : BitVec 32 := Scalar.subi v8 v10
  let v12 : BitVec 1 := Scalar.cmpi .ne v6 v11
  let v13 : BitVec 32 := Scalar.remsi v0 c44_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c44_i32_4 : BitVec 32 := 44#32
  let c0_i32_5 : BitVec 32 := 0#32
  let v18 : BitVec 1 := Scalar.cmpi .eq c44_i32_4 c0_i32_5
  let c1_i32_6 : BitVec 32 := 1#32
  let v19 : BitVec 32 := Scalar.select v18 c1_i32_6 c44_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, v27.toNat, c0_i32_10.toNat, c0_i32_11.toNat]

def cc0_transform_11 (i : grid0.Coords) : Fin 4 → Nat :=
  let arg0 : BitVec 32 := BitVec.ofNat 32 (i 0).val
  let c527_i32 : BitVec 32 := 527#32
  let v0 : BitVec 32 := Scalar.minsi arg0 c527_i32
  let c44_i32 : BitVec 32 := 44#32
  let v1 : BitVec 32 := Scalar.divsi v0 c44_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c44_i32 c0_i32_1
  let v8 : BitVec 32 := Scalar.extui v7
  let c0_i32_2 : BitVec 32 := 0#32
  let v9 : BitVec 1 := Scalar.cmpi .slt c44_i32 c0_i32_2
  let v10 : BitVec 32 := Scalar.extui v9
  let v11 : BitVec 32 := Scalar.subi v8 v10
  let v12 : BitVec 1 := Scalar.cmpi .ne v6 v11
  let v13 : BitVec 32 := Scalar.remsi v0 c44_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c44_i32_4 : BitVec 32 := 44#32
  let c0_i32_5 : BitVec 32 := 0#32
  let v18 : BitVec 1 := Scalar.cmpi .eq c44_i32_4 c0_i32_5
  let c1_i32_6 : BitVec 32 := 1#32
  let v19 : BitVec 32 := Scalar.select v18 c1_i32_6 c44_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, v27.toNat, c0_i32_10.toNat, c0_i32_11.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x96x304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x152x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x256x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4x304x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x304x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x8x304 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S12x176x304x96 : Shape := ⟨4, ![12, 176, 304, 96]⟩
abbrev S1 : Shape := ⟨1, ![1]⟩
abbrev S12x88x152x256 : Shape := ⟨4, ![12, 88, 152, 256]⟩
abbrev S96x256 : Shape := ⟨2, ![96, 256]⟩
abbrev S256 : Shape := ⟨1, ![256]⟩
abbrev S3x3x256x256 : Shape := ⟨4, ![3, 3, 256, 256]⟩
abbrev S12x176x304x256 : Shape := ⟨4, ![12, 176, 304, 256]⟩
abbrev S12x176x8x304 : Shape := ⟨4, ![12, 176, 8, 304]⟩
abbrev S642048x96 : Shape := ⟨2, ![642048, 96]⟩
abbrev S642048x256 : Shape := ⟨2, ![642048, 256]⟩
abbrev S1x1x1x256 : Shape := ⟨4, ![1, 1, 1, 256]⟩
abbrev S12x88x2x152x2x256 : Shape := ⟨6, ![12, 88, 2, 152, 2, 256]⟩
abbrev S12x88x1x152x1x256 : Shape := ⟨6, ![12, 88, 1, 152, 1, 256]⟩
abbrev S12x176x304x8x32 : Shape := ⟨5, ![12, 176, 304, 8, 32]⟩
abbrev S12x176x304x8 : Shape := ⟨4, ![12, 176, 304, 8]⟩
abbrev S1x1x1x1x252 : Shape := ⟨5, ![1, 1, 1, 1, 252]⟩
abbrev S12x176x304x8x1 : Shape := ⟨5, ![12, 176, 304, 8, 1]⟩
abbrev S12x176x304x8x252 : Shape := ⟨5, ![12, 176, 304, 8, 252]⟩
abbrev S12x1x304x256 : Shape := ⟨4, ![12, 1, 304, 256]⟩
abbrev S12x177x304x256 : Shape := ⟨4, ![12, 177, 304, 256]⟩
abbrev S12x178x304x256 : Shape := ⟨4, ![12, 178, 304, 256]⟩
abbrev S12x178x1x256 : Shape := ⟨4, ![12, 178, 1, 256]⟩
abbrev S12x178x305x256 : Shape := ⟨4, ![12, 178, 305, 256]⟩
abbrev S12x178x306x256 : Shape := ⟨4, ![12, 178, 306, 256]⟩
abbrev S1x1x256x256 : Shape := ⟨4, ![1, 1, 256, 256]⟩
abbrev S256x256 : Shape := ⟨2, ![256, 256]⟩

abbrev nBuf : Space → Nat
  | .hbm => 12
  | .vmem => 11
  | .smem => 1
  | _ => 0

abbrev bufTy : (tb : Table) → Fin (tcTables nBuf tb) → BufTy
  | .hbm, ⟨0, _⟩ => ⟨S12x176x304x96, .fp8e4m3⟩
  | .hbm, ⟨1, _⟩ => ⟨S1, .f32⟩
  | .hbm, ⟨2, _⟩ => ⟨S12x88x152x256, .f32⟩
  | .hbm, ⟨3, _⟩ => ⟨S96x256, .fp8e4m3⟩
  | .hbm, ⟨4, _⟩ => ⟨S256, .f32⟩
  | .hbm, ⟨5, _⟩ => ⟨S256, .f32⟩
  | .hbm, ⟨6, _⟩ => ⟨S3x3x256x256, .fp8e4m3⟩
  | .hbm, ⟨7, _⟩ => ⟨S256, .f32⟩
  | .hbm, ⟨8, _⟩ => ⟨S256, .f32⟩
  | .hbm, ⟨9, _⟩ => ⟨S12x176x304x256, .bf16⟩
  | .hbm, ⟨10, _⟩ => ⟨S12x176x304x256, .fp8e4m3⟩
  | .hbm, ⟨11, _⟩ => ⟨S12x176x8x304, .f32⟩
  | .local _ .vmem, ⟨0, _⟩ => ⟨S12x176x304x96, .fp8e4m3⟩
  | .local _ .vmem, ⟨1, _⟩ => ⟨S12x88x152x256, .f32⟩
  | .local _ .vmem, ⟨2, _⟩ => ⟨S96x256, .fp8e4m3⟩
  | .local _ .vmem, ⟨3, _⟩ => ⟨S256, .f32⟩
  | .local _ .vmem, ⟨4, _⟩ => ⟨S256, .f32⟩
  | .local _ .vmem, ⟨5, _⟩ => ⟨S3x3x256x256, .fp8e4m3⟩
  | .local _ .vmem, ⟨6, _⟩ => ⟨S256, .f32⟩
  | .local _ .vmem, ⟨7, _⟩ => ⟨S256, .f32⟩
  | .local _ .vmem, ⟨8, _⟩ => ⟨S12x176x304x256, .bf16⟩
  | .local _ .vmem, ⟨9, _⟩ => ⟨S12x176x304x256, .fp8e4m3⟩
  | .local _ .vmem, ⟨10, _⟩ => ⟨S12x176x8x304, .f32⟩
  | .local _ .smem, ⟨0, _⟩ => ⟨S1, .f32⟩
  | _, _ => ⟨S12x176x304x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x176x304x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x88x152x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x3x256x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x176x304x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x176x304x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x176x8x304 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Exponent.lean ====
/- The block quantiser's power of two, on one number: the exponent the kernel finds by eight comparisons of words, the reference's greatest
   power of two below, the scale and its reciprocal, which are the same on both sides. -/
module

public import Idealize.ShloMosaic.Lib.Pointwise
public import Idealize.ShloMosaic.PureOps.Ideal
public import Mathlib.Data.Nat.Find
public import Mathlib.Data.Finset.Fold

@[expose] public section

noncomputable section

namespace Cert.Level2

open Idealize.ShloMosaic

/-- The 32-bit word whose exponent field is `n` and whose other bits are zero. -/
def word (n : ℕ) : BitVec 32 := BitVec.ofNat 32 (n * 8388608)

/-- The number that word `n` is: zero at 0, `2 ^ (n − 127)` between, infinity at 255. -/
def pw (n : ℕ) : EReal := Ideal.ofBits .f32 (word n)

theorem word_fields : ∀ n : Fin 256, ((word n).extractLsb' 23 8).toNat = n.val ∧ ((word n).extractLsb' 0 23).toNat = 0
    ∧ ((word n).extractLsb' 31 1 == 1#1) = false := by decide +kernel

theorem pw_zero : pw 0 = 0 := by
  obtain ⟨h1, h2, h3⟩ := word_fields 0
  simp only [Fin.coe_ofNat_eq_mod] at h1 h2 h3
  norm_num at h1 h2 h3
  simp [pw, Ideal.ofBits, Ideal.ieee, h1, h2]

theorem pw_top : pw 255 = ⊤ := by
  obtain ⟨h1, h2, h3⟩ := word_fields 255
  simp only [Fin.coe_ofNat_eq_mod] at h1 h2 h3
  norm_num at h1 h2 h3
  simp [pw, Ideal.ofBits, Ideal.ieee, h1, h2, h3]

theorem pw_pos (n : ℕ) (h0 : 0 < n) (h : n < 255) : pw n = (((2 : ℝ) ^ ((n : ℤ) - 127) : ℝ) : EReal) := by
  obtain ⟨h1, h2, h3⟩ := word_fields ⟨n, by omega⟩
  simp only at h1 h2 h3
  have a1 : n ≠ 2 ^ 8 - 1 := by omega
  have a2 : n ≠ 0 := by omega
  simp only [pw, Ideal.ofBits, Ideal.ieee, h1, h2, h3, a1, a2, if_false, Bool.false_eq_true]
  congr 1
  push_cast
  norm_num
  rw [show (8388608 : ℝ) = (2 : ℝ) ^ (23 : ℤ) by norm_num, ← zpow_add₀ (by norm_num)]
  congr 1
  ring

theorem pw_lt (a b : ℕ) (h : a < b) (hb : b ≤ 255) : pw a < pw b := by
  rcases Nat.eq_zero_or_pos a with rfl | ha
  · rw [pw_zero]
    rcases Nat.lt_or_ge b 255 with hb' | hb'
    · rw [pw_pos b h hb']; exact_mod_cast (by positivity : (0 : ℝ) < 2 ^ ((b : ℤ) - 127))
    · obtain rfl : b = 255 := by omega
      rw [pw_top]; exact EReal.zero_lt_top
  · rw [pw_pos a ha (by omega)]
    rcases Nat.lt_or_ge b 255 with hb' | hb'
    · rw [pw_pos b (by omega) hb']
      exact_mod_cast zpow_lt_zpow_right₀ (by norm_num : (1 : ℝ) < 2) (by omega : (a : ℤ) - 127 < (b : ℤ) - 127)
    · obtain rfl : b = 255 := by omega
      rw [pw_top]; exact EReal.coe_lt_top _

theorem pw_le_iff (a b : ℕ) (ha : a ≤ 255) (hb : b ≤ 255) : pw a ≤ pw b ↔ a ≤ b := by
  constructor
  · intro h; by_contra hc; exact absurd h (not_le.mpr (pw_lt b a (by omega) ha))
  · intro h
    rcases Nat.lt_or_eq_of_le h with h | rfl
    · exact (pw_lt a b h hb).le
    · exact le_rfl

theorem pw_127 : pw 127 = 1 := by rw [pw_pos 127 (by norm_num) (by norm_num)]; norm_num

theorem pw_double (n : ℕ) (h0 : 0 < n) (h : n < 254) : (2 : EReal) * pw n = pw (n + 1) := by
  rw [pw_pos n h0 (by omega), pw_pos (n + 1) (by omega) (by omega)]
  have : (2 : EReal) = ((2 : ℝ) : EReal) := by norm_cast
  rw [this, ← EReal.coe_mul]
  congr 1
  push_cast
  rw [show (n : ℤ) + 1 - 127 = (n - 127) + 1 by ring, zpow_add₀ (by norm_num)]; ring

open Classical in
/-- The greatest exponent field, up to 252, whose number is at most `y`; 0 if none is. -/
def expo (y : EReal) : ℕ := Nat.findGreatest (fun n => pw n ≤ y) 252

theorem expo_le (y : EReal) : expo y ≤ 252 := Nat.findGreatest_le _

theorem le_expo_iff (y : EReal) (n : ℕ) (hn : n ≤ 252) : n ≤ expo y ↔ n = 0 ∨ pw n ≤ y := by
  constructor
  · intro h
    rcases Nat.eq_zero_or_pos n with h0 | h0
    · exact .inl h0
    · right
      have : pw (expo y) ≤ y := Nat.findGreatest_of_ne_zero (P := fun n => pw n ≤ y) (m := expo y) (n := 252) rfl (by omega)
      exact le_trans ((pw_le_iff _ _ (by omega) (by have := expo_le y; omega)).mpr h) this
  · rintro (rfl | h)
    · exact Nat.zero_le _
    · exact Nat.le_findGreatest hn h

theorem expo_eq_of_forall (y : EReal) (k : ℕ) (hk : k ≤ 252) (h : ∀ n, 0 < n → n ≤ 252 → (n ≤ k ↔ pw n ≤ y)) : expo y = k := by
  have he := expo_le y
  apply le_antisymm
  · rcases Nat.eq_zero_or_pos (expo y) with h0 | h0
    · omega
    · rcases (le_expo_iff y (expo y) he).mp le_rfl with h1 | h1
      · omega
      · exact (h _ h0 he).mpr h1
  · rcases Nat.eq_zero_or_pos k with h0 | h0
    · omega
    · exact (le_expo_iff y k hk).mpr (.inr ((h k h0 hk).mp le_rfl))

theorem expo_max (x y : EReal) : expo (max x y) = max (expo x) (expo y) := by
  apply expo_eq_of_forall
  · exact max_le (expo_le x) (expo_le y)
  · intro n h0 hn
    rw [le_max_iff, le_max_iff, le_expo_iff x n hn, le_expo_iff y n hn]
    constructor
    · rintro ((h | h) | (h | h)) <;> first | omega | exact .inl h | exact .inr h
    · rintro (h | h)
      · exact .inl (.inr h)
      · exact .inr (.inr h)

theorem expo_bot : expo ⊥ = 0 := by
  apply expo_eq_of_forall _ _ (by norm_num)
  intro n h0 hn
  constructor
  · omega
  · intro h
    have := pw_lt 0 n h0 (by omega)
    rw [pw_zero] at this
    exact absurd (le_trans this.le h) (by simp)

/-- One comparison of the kernel's search: the word `e + s`, if its number is at most `x`. -/
def stepW (x : EReal) (e s : BitVec 32) : BitVec 32 :=
  if Ideal.ofBits .f32 (e + s) ≤ x then e + s else e

/-- The kernel's search: eight comparisons, by descending powers of two. -/
def search (x : EReal) : BitVec 32 :=
  stepW x (stepW x (stepW x (stepW x (stepW x (stepW x (stepW x (stepW x 0#32 1073741824#32) 536870912#32) 268435456#32) 134217728#32)
    67108864#32) 33554432#32) 16777216#32) 8388608#32

theorem word_add (a b : ℕ) : word a + word b = word (a + b) := by
  unfold word
  rw [Nat.add_mul]
  exact (BitVec.ofNat_add _ _).symm

theorem word_sub (a b : ℕ) (h : b ≤ a) (ha : a < 256) : word a - word b = word (a - b) := by
  have : word a = word (a - b) + word b := by rw [word_add]; congr 1; omega
  rw [this, BitVec.add_sub_cancel]

/-- The search on natural numbers below a bound. -/
def stepN (k e s : ℕ) : ℕ := if e + s ≤ k then e + s else e

theorem search_nat : ∀ k : Fin 256, stepN k (stepN k (stepN k (stepN k (stepN k (stepN k (stepN k (stepN k 0 128) 64) 32) 16) 8) 4) 2) 1 = k := by
  decide +kernel

/-- The greatest power of two that the search may return, `2 ^ 125`. -/
theorem cap_eq : Ideal.ofBits .f32 0x7E000000#32 = pw 252 := rfl

theorem search_eq (y : EReal) (hy : 0 ≤ y) : search (min y (pw 252)) = word (expo y) := by
  have key : ∀ n, n ≤ 255 → (pw n ≤ min y (pw 252) ↔ n ≤ expo y) := by
    intro n hn
    rw [le_min_iff, pw_le_iff n 252 hn (by norm_num)]
    constructor
    · rintro ⟨h1, h2⟩; exact (le_expo_iff y n h2).mpr (.inr h1)
    · intro h
      have h2 : n ≤ 252 := le_trans h (expo_le y)
      refine ⟨?_, h2⟩
      rcases (le_expo_iff y n h2).mp h with rfl | h
      · rw [pw_zero]; exact hy
      · exact h
  have st : ∀ e s, e + s ≤ 255 → stepW (min y (pw 252)) (word e) (word s) = word (stepN (expo y) e s) := by
    intro e s h
    unfold stepW stepN
    rw [word_add]
    have := key (e + s) h
    unfold pw at this
    by_cases h' : e + s ≤ expo y
    · rw [if_pos h', if_pos]; exact this.mpr h'
    · rw [if_neg h', if_neg]; exact fun hh => h' (this.mp hh)
  have bd : ∀ e s b, e ≤ b → stepN (expo y) e s ≤ b + s := by
    intro e s b h; unfold stepN; split <;> omega
  have b1 := bd 0 128 0 le_rfl
  have b2 := bd _ 64 _ b1
  have b3 := bd _ 32 _ b2
  have b4 := bd _ 16 _ b3
  have b5 := bd _ 8 _ b4
  have b6 := bd _ 4 _ b5
  have b7 := bd _ 2 _ b6
  have hs := search_nat ⟨expo y, by have := expo_le y; omega⟩
  simp only at hs
  unfold search
  rw [show (0#32) = word 0 from rfl, show (1073741824#32) = word 128 from rfl, show (536870912#32) = word 64 from rfl,
    show (268435456#32) = word 32 from rfl, show (134217728#32) = word 16 from rfl, show (67108864#32) = word 8 from rfl,
    show (33554432#32) = word 4 from rfl, show (16777216#32) = word 2 from rfl, show (8388608#32) = word 1 from rfl]
  rw [st _ _ (by omega), st _ _ (by omega), st _ _ (by omega), st _ _ (by omega), st _ _ (by omega), st _ _ (by omega),
    st _ _ (by omega), st _ _ (by omega), hs]

/-- The signed maximum of two words is the word of the maximum. -/
theorem word_max (a b : ℕ) (ha : a < 256) (hb : b < 256) : IntOp.maxsi (word a) (word b) = word (max a b) := by
  have e : ∀ n < 256, (word n).toInt = n * 8388608 := by
    intro n hn
    have h1 : (word n).toNat = n * 8388608 := by simp only [word, BitVec.toNat_ofNat]; omega
    rw [BitVec.toInt_eq_toNat_of_lt (by omega), h1]; push_cast; rfl
  have : (word b).slt (word a) = decide (b < a) := by
    rw [BitVec.slt_eq_decide, e a ha, e b hb]
    congr 1; apply propext; omega
  unfold IntOp.maxsi
  rw [this]
  by_cases h : b < a
  · simp [h, max_eq_left h.le]
  · simp [h, max_eq_right (by omega : a ≤ b)]

theorem word_inj (a : ℕ) (ha : a < 256) : word a = 0#32 ↔ a = 0 := by
  have : ∀ a : Fin 256, word a = 0#32 ↔ a = 0 := by decide +kernel
  have := this ⟨a, ha⟩
  rw [this, Fin.ext_iff]; rfl

/-- The exponent that the scale is made from: 126 for a block whose greatest power of two below is none. -/
def expo1 (y : EReal) : ℕ := if expo y = 0 then 126 else expo y

theorem expo1_le (y : EReal) : expo1 y ≤ 252 := by have := expo_le y; unfold expo1; split <;> omega
theorem expo1_pos (y : EReal) : 0 < expo1 y := by unfold expo1; split <;> omega

/-- The scale of a block whose `max|m| / 448` is `y`. -/
def scl (y : EReal) : EReal := pw (expo1 y + 1)

/-- Its reciprocal. -/
def rcp (y : EReal) : EReal := pw (253 - expo1 y)

theorem div_scl (y : EReal) : Ideal.div 1 (scl y) = rcp y := by
  have h1 := expo1_le y
  have h2 := expo1_pos y
  unfold scl rcp Ideal.div
  rw [pw_pos _ (by omega) (by omega), pw_pos _ (by omega) (by omega), if_neg, one_mul, ← EReal.coe_inv, ← zpow_neg]
  · congr 2; omega
  · have : (2 : ℝ) ^ (((expo1 y + 1 : ℕ) : ℤ) - 127) ≠ 0 := by positivity
    exact_mod_cast this

/-- The number `pw n` as the power the reference's table holds at `n − 1`. -/
theorem exp2_eq (j : ℕ) (h : j < 252) : Ideal.exp2 (((j : ℝ) - 126 : ℝ) : EReal) = pw (j + 1) := by
  rw [Ideal.exp2_coe, pw_pos _ (by omega) (by omega)]
  congr 1
  rw [← Real.rpow_intCast]
  congr 1
  push_cast; ring

/-- The greatest entry of the reference's table at most `y`, or zero. -/
theorem below_eq (y : EReal) (f : Fin 252 → EReal) (hf : ∀ j, f j = pw (j.val + 1)) (b : EReal) (hb : b ≤ 0) :
    (Finset.univ.fold max b fun j : Fin 252 => if f j ≤ y then f j else 0) = pw (expo y) := by
  have he := expo_le y
  apply le_antisymm
  · rw [Finset.fold_max_le]
    constructor
    · rw [← pw_zero] at hb; exact hb.trans ((pw_le_iff _ _ (by norm_num) (by omega)).mpr (Nat.zero_le _))
    · intro j _
      rw [hf]
      split
      · rename_i h
        exact (pw_le_iff _ _ (by omega) (by omega)).mpr ((le_expo_iff y _ (by omega)).mpr (.inr h))
      · rw [← pw_zero]; exact (pw_le_iff _ _ (by norm_num) (by omega)).mpr (Nat.zero_le _)
  · rw [Finset.le_fold_max]
    right
    rcases Nat.eq_zero_or_pos (expo y) with h0 | h0
    · refine ⟨⟨0, by norm_num⟩, Finset.mem_univ _, ?_⟩
      rw [h0, pw_zero, hf]
      split
      · rw [← pw_zero]; exact (pw_le_iff _ _ (by norm_num) (by norm_num)).mpr (Nat.zero_le _)
      · exact le_rfl
    · refine ⟨⟨expo y - 1, by omega⟩, Finset.mem_univ _, ?_⟩
      rw [hf]
      simp only [show expo y - 1 + 1 = expo y by omega]
      rcases (le_expo_iff y (expo y) he).mp le_rfl with h1 | h1
      · omega
      · rw [if_pos h1]

/-- The reference's scale is the kernel's. -/
theorem scale_eq (y : EReal) : (if pw (expo y) = 0 then 1 else 2 * pw (expo y)) = scl y := by
  have he := expo_le y
  unfold scl expo1
  by_cases h : expo y = 0
  · rw [h, if_pos pw_zero, if_pos rfl]; exact pw_127.symm
  · rw [if_neg h, if_neg, pw_double _ (by omega) (by omega)]
    have := pw_lt 0 (expo y) (by omega) (by omega)
    rw [pw_zero] at this
    exact this.ne'

end Cert.Level2

end
-- ==== Proof.Spec.lean ====
/- The three results of the finest level as functions of the nine arguments, at the arguments' own coordinates, over the extended reals. -/
module

public import proofs.«01_k».proof.Proof.Exponent

@[expose] public section

noncomputable section

namespace Cert.Level2

open Idealize.ShloMosaic

/-- The nine arguments, each as a function of its coordinates. -/
structure Inputs where
  c : Fin 12 → Fin 176 → Fin 304 → Fin 96 → EReal
  cs : EReal
  m3 : Fin 12 → Fin 88 → Fin 152 → Fin 256 → EReal
  wl : Fin 96 → Fin 256 → EReal
  sl : Fin 256 → EReal
  bl : Fin 256 → EReal
  wo : Fin 3 → Fin 3 → Fin 256 → Fin 256 → EReal
  so : Fin 256 → EReal
  bo : Fin 256 → EReal

/-- The f32 constant nearest to 1/448. -/
def c448 : EReal := Ideal.ofBits .f32 0x3B124925#32

/-- The largest fp8 magnitude, 448, and its negative. -/
def hi448 : EReal := Ideal.ofBits .f32 0x43E00000#32
def lo448 : EReal := Ideal.ofBits .f32 0xC3E00000#32

/-- The channel of position `k` within block `g`. -/
def chan (g : Fin 8) (k : Fin 32) : Fin 256 := ⟨g.val * 32 + k.val, by omega⟩

/-- The block of a channel. -/
def blockOf (d : Fin 256) : Fin 8 := ⟨d.val / 32, by omega⟩

namespace Inputs

variable (I : Inputs)

/-- The merged map: the scaled lateral product plus its bias, plus the coarser map at half the coordinates. -/
def map (b : Fin 12) (h : Fin 176) (w : Fin 304) (d : Fin 256) : EReal :=
  (∑ k : Fin 96, I.c b h w k * I.wl k d) * (I.cs * I.sl d) + I.bl d + I.m3 b ⟨h.val / 2, by omega⟩ ⟨w.val / 2, by omega⟩ d

/-- The greatest magnitude within a block of 32 channels, over 448. -/
def amax (b : Fin 12) (h : Fin 176) (w : Fin 304) (g : Fin 8) : EReal :=
  (Finset.univ.fold max ⊥ fun k : Fin 32 => max (I.map b h w (chan g k)) (-(I.map b h w (chan g k)))) * c448

/-- The block's scale. -/
def scale (b : Fin 12) (h : Fin 176) (w : Fin 304) (g : Fin 8) : EReal := scl (I.amax b h w g)

/-- The code of a channel: the map over its block's scale, clamped. -/
def code (b : Fin 12) (h : Fin 176) (w : Fin 304) (d : Fin 256) : EReal :=
  min hi448 (max lo448 (I.map b h w d * rcp (I.amax b h w (blockOf d))))

/-- The dequantised map. -/
def deq (b : Fin 12) (h : Fin 176) (w : Fin 304) (d : Fin 256) : EReal := I.code b h w d * I.scale b h w (blockOf d)

/-- The dequantised map within one row and one column of zeros all round: entry `(y, x)` is the map's at `(y − 1, x − 1)`. -/
def padded (b : Fin 12) (y x : ℕ) (d : Fin 256) : EReal :=
  if h : (1 ≤ y ∧ y < 177) ∧ 1 ≤ x ∧ x < 305 then I.deq b ⟨y - 1, by omega⟩ ⟨x - 1, by omega⟩ d else 0

/-- One of the nine products of the 3x3 convolution. -/
def tap (b : Fin 12) (h : Fin 176) (w : Fin 304) (d : Fin 256) (dy dx : Fin 3) : EReal :=
  ∑ k : Fin 256, I.padded b (h.val + dy.val) (w.val + dx.val) k * I.wo dy dx k d

/-- The 3x3 convolution of the dequantised map, scaled and biased. -/
def out (b : Fin 12) (h : Fin 176) (w : Fin 304) (d : Fin 256) : EReal :=
  (I.tap b h w d 0 0 + I.tap b h w d 0 1 + I.tap b h w d 0 2 + I.tap b h w d 1 0 + I.tap b h w d 1 1 + I.tap b h w d 1 2
    + I.tap b h w d 2 0 + I.tap b h w d 2 1 + I.tap b h w d 2 2) * I.so d + I.bo d

end Inputs

end Cert.Level2

end
-- ==== Proof.Row.lean ====
/- What the kernel computes of one row of the map, as functions of the row's loads: one term for each intermediate value, which every row of
   every branch computes. -/
module

public import proofs.«01_k».proof.Proof.Spec
public import proofs.«01_k».proof.Proof.Gen.KernelIdeal.Skeleton

@[expose] public section

noncomputable section

namespace Cert.Level2.Row

open Idealize.ShloMosaic Cert.KernelIdeal Cert.KernelIdeal.Gen

variable {F : FTy → Type} [FloatOps F]

/-- The merged row: the lateral product, scaled and biased, plus the two lane halves of the upsampled coarse row. -/
def merged (cs : Elt F .f32) (sl bl : Vec F S1x256 .f32) (c : Vec F S1x1x96x304 .fp8e4m3) (wl : Vec F S96x256 .fp8e4m3)
    (u0 u1 : Vec F S1x304x128 .f32) : FVec F S304x256 .f32 :=
  k0_pay14 (k0_pay7 (k0_pay3 cs sl) (k0_pay4 bl) c wl) u0 u1

variable (m : FVec F S304x256 .f32)

/-- The magnitudes over 448, capped. -/
def mag : FVec F S304x256 .f32 :=
  minimumf (absf (mulf m (broadcast S304x256 (Scalar.ofBits .f32 0x3B124925#32)))) (broadcast S304x256 (Scalar.ofBits .f32 0x7E000000#32))

/-- One comparison of the search of the exponent words. -/
def srch (x : FVec F S304x256 .f32) (e : IVec S304x256 32) (s : BitVec 32) : IVec S304x256 32 :=
  select (cmpf .ole (bitcastToFloat .f32 (addi e (broadcast S304x256 s))) x) (addi e (broadcast S304x256 s)) e

/-- The exponent words. -/
def words : IVec S304x256 32 :=
  srch (mag m) (srch (mag m) (srch (mag m) (srch (mag m) (srch (mag m) (srch (mag m) (srch (mag m) (srch (mag m) (broadcast S304x256 0#32) 1073741824#32)
    536870912#32) 268435456#32) 134217728#32) 67108864#32) 33554432#32) 16777216#32) 8388608#32

/-- The greater of each lane and the one `s` lanes round. -/
def fold (s : BitVec 32) (e : IVec S304x128 32) : IVec S304x128 32 := maxsi e (dynamicRotate 1 s none e rotates_S304x128_d1)

/-- The two halves' greater words. -/
def halves (e : IVec S304x256 32) : IVec S304x128 32 :=
  maxsi (extractStridedSlice S304x128 ![0, 0] e slices_S304x256_o0_0_S304x128) (extractStridedSlice S304x128 ![0, 128] e slices_S304x256_o0_128_S304x128)

/-- The greatest word of each lane's block. -/
def blocks : IVec S304x128 32 := fold 8#32 (fold 16#32 (fold 32#32 (fold 64#32 (halves (words m)))))

/-- The word that the scale is made from. -/
def expw : IVec S304x128 32 :=
  select (cmpi .eq (blocks m) (broadcast S304x128 0#32)) (broadcast S304x128 1056964608#32) (blocks m)

/-- The scales, one a lane. -/
def scales : FVec F S304x128 .f32 := bitcastToFloat .f32 (addi (expw m) (broadcast S304x128 8388608#32))

/-- Their reciprocals. -/
def invs : FVec F S304x128 .f32 := bitcastToFloat .f32 (subi (broadcast S304x128 2122317824#32) (expw m))

/-- The codes, in the kernel's lane order. -/
def codes : FVec F S304x256 .fp8e4m3 :=
  truncf .fp8e4m3 (minimumf (maximumf (mulf m (concatenate S304x256 1 [⟨S304x128, invs m⟩, ⟨S304x128, invs m⟩] concatenates_S304x128_S304x128_S304x256_d1))
    (broadcast S304x256 (Scalar.ofBits .f32 0xC3E00000#32))) (broadcast S304x256 (Scalar.ofBits .f32 0x43E00000#32))) bitsLt_fp8e4m3_f32

/-- The codes with sixteen rows of zeros below. -/
def padded : FVec F S320x256 .fp8e4m3 :=
  truncf .fp8e4m3 (concatenate S320x256 0 [⟨S304x256, extf .f32 (codes m) bitsLt_fp8e4m3_f32⟩, ⟨S16x256, broadcast S16x256 (Scalar.sitofp .f32 0#32)⟩]
    concatenates_S304x256_S16x256_S320x256_d0) bitsLt_fp8e4m3_f32

/-- A half of the lanes of the padded codes. -/
def half0 : FVec F S320x128 .f32 := extf .f32 (extractStridedSlice S320x128 ![0, 0] (padded m) slices_S320x256_o0_0_S320x128) bitsLt_fp8e4m3_f32
def half1 : FVec F S320x128 .f32 := extf .f32 (extractStridedSlice S320x128 ![0, 128] (padded m) slices_S320x256_o0_128_S320x128) bitsLt_fp8e4m3_f32

/-- The lane numbers. -/
def lane : IVec S320x128 32 := iota .tc S320x128 32 [1] iota_S320x128_d1_w32

/-- The lane that a lane takes its code from, before and after wrapping. -/
def from0 (h : BitVec 32) : IVec S320x128 32 :=
  addi (addi (muli (broadcast S320x128 8#32) (andi lane (broadcast S320x128 15#32))) (broadcast S320x128 h)) (shrsi lane (broadcast S320x128 5#32))
def from1 (h : BitVec 32) : IVec S320x128 32 :=
  shapeCast S320x128 (shapeCast S320x128x1
    (select (cmpi .slt (from0 h) (broadcast S320x128 0#32)) (addi (from0 h) (broadcast S320x128 128#32)) (from0 h)) shapeCasts_S320x128_S320x128x1)
    shapeCasts_S320x128x1_S320x128

/-- Whether a lane takes its code from the second half. -/
def second : IVec S320x128 1 := cmpi .ne (andi lane (broadcast S320x128 16#32)) (broadcast S320x128 0#32)

/-- A half of the codes in the channels' own order. -/
def natural (h : BitVec 32) : FVec F S320x128 .fp8e4m3 :=
  truncf .fp8e4m3 (select second (dynamicGather 1 (half1 m) (from1 h)) (dynamicGather 1 (half0 m) (from1 h))) bitsLt_fp8e4m3_f32

/-- The row of codes that is stored. -/
def qRow : FVec F S1x1x304x256 .fp8e4m3 :=
  shapeCast S1x1x304x256 (extractStridedSlice S304x256 ![0, 0]
    (concatenate S320x256 1 [⟨S320x128, natural m 0#32⟩, ⟨S320x128, natural m 4#32⟩] concatenates_S320x128_S320x128_S320x256_d1)
    slices_S320x256_o0_0_S304x256) shapeCasts_S304x256_S1x1x304x256

/-- The halves of the row of dequantised values that are stored. -/
def xRow0 : FVec F S1x1x304x128 .f32 :=
  shapeCast S1x1x304x128 (mulf (extractStridedSlice S304x128 ![0, 0] (extf .f32 (codes m) bitsLt_fp8e4m3_f32) slices_S304x256_o0_0_S304x128) (scales m))
    shapeCasts_S304x128_S1x1x304x128
def xRow1 : FVec F S1x1x304x128 .f32 :=
  shapeCast S1x1x304x128 (mulf (extractStridedSlice S304x128 ![0, 128] (extf .f32 (codes m) bitsLt_fp8e4m3_f32) slices_S304x256_o0_128_S304x128) (scales m))
    shapeCasts_S304x128_S1x1x304x128

/-- The row of scales that is stored. -/
def scRow : FVec F S1x1x8x304 .f32 :=
  shapeCast S1x1x8x304 (extractStridedSlice S8x304 ![0, 0] (transpose S128x304 [1, 0] (scales m) transposes_S304x128_p1_0_S128x304) slices_S128x304_o0_0_S8x304)
    shapeCasts_S8x304_S1x1x8x304

section Conv

/-- A product of the convolution, added to an accumulator. -/
def tapAdd (acc : FVec F S304x256 .f32) (x0 x1 : Vec F S1x1x304x128 .f32) (wo : Vec F S1x256x256 .fp8e4m3) : FVec F S304x256 .f32 :=
  addf acc (matmul dot_S304x256_S256x256_S304x256_1_0_0_1_n_n none
    (truncf .bf16 (concatenate S304x256 1 [⟨S304x128, shapeCast S304x128 x0 shapeCasts_S1x1x304x128_S304x128⟩,
      ⟨S304x128, shapeCast S304x128 x1 shapeCasts_S1x1x304x128_S304x128⟩] concatenates_S304x128_S304x128_S304x256_d1) bitsLt_bf16_f32)
    (shapeCast S256x256 wo shapeCasts_S1x256x256_S256x256) (constant S304x256 .f32 0x00000000#32))

/-- The row of the convolution that is stored, of nine pairs of windows. -/
def pRow (a0 a1 b0 b1 c0 c1 d0 d1 e0 e1 f0 f1 g0 g1 h0 h1 i0 i1 : Vec F S1x1x304x128 .f32) (wa wb wc wd we wf wg wh wi : Vec F S1x256x256 .fp8e4m3)
    (so bo : Vec F S1x256 .f32) : FVec F S1x1x304x256 .bf16 :=
  shapeCast S1x1x304x256 (truncf .bf16 (addf (mulf
    (tapAdd (tapAdd (tapAdd (tapAdd (tapAdd (tapAdd (tapAdd (tapAdd (tapAdd (broadcast S304x256 (Scalar.ofBits .f32 0x00000000#32))
      a0 a1 wa) b0 b1 wb) c0 c1 wc) d0 d1 wd) e0 e1 we) f0 f1 wf) g0 g1 wg) h0 h1 wh) i0 i1 wi)
    (broadcastTo S304x256 (shapeCast S1x256 so shapeCasts_S1x256_S1x256) broadcasts_S1x256_S304x256))
    (broadcastTo S304x256 (shapeCast S1x256 bo shapeCasts_S1x256_S1x256) broadcasts_S1x256_S304x256)) bitsLt_bf16_f32) shapeCasts_S304x256_S1x1x304x256

end Conv

end Cert.Level2.Row

end
-- ==== Proof.Step.lean ====
/- What one point of the grid computes, as functions of its blocks and of the two scratch maps: the same for every branch. -/
module

public import proofs.«01_k».proof.Proof.Row
public import proofs.«01_k».proof.Proof.Gen.KernelIdeal.Frame

@[expose] public section

noncomputable section

namespace Cert.Level2.Step

open Idealize.ShloMosaic Idealize.SL.Sem Cert.KernelIdeal Cert.KernelIdeal.Gen

variable {F : FTy → Type} [FloatOps F]

/-- The contents a list of writes, newest first, leaves over earlier contents. -/
def over {s : Shape} {e : EltTy} (D : s.Idx → Elt F e) : List (View.Piece (Elt F) s e) → s.Idx → Elt F e
  | [] => D
  | p :: L => p.1.overlay (over D L) p.2

/-- Reading a whole buffer after writes, over the contents it had. -/
theorem read_writes_over {sig : RefSig} {κ : Kind} {sp : Space} {s : Shape} {e : EltTy} (v : View sig κ sp s e) (f : v.ty.Contents (Elt F))
    (L : List (View.Piece (Elt F) s e)) : v.read (Elt F) (v.writes (Elt F) f L) = over (v.read (Elt F) f) L := by
  induction L with
  | nil => rfl
  | cons p L ih =>
    funext y
    by_cases hm : y ∈ p.1.set
    · obtain ⟨x, rfl⟩ := p.1.exists_idx_of_mem hm
      exact (View.read_writes_cons_emb v f p.1 p.2 L x).trans (p.1.overlay_emb _ _ x).symm
    · have hy' : y ∉ Finset.univ.map p.1.emb := by rwa [Rect.map_emb_univ]
      rw [View.writes_cons, View.read_slice_write_of_not_mem p.1 _ _ _ hy', ih]
      exact (p.1.overlay_of_not_mem _ _ hm).symm

/-- The same of writes over a buffer nothing is known of. -/
theorem canon_over {s : Shape} {e : EltTy} (L : List (View.Piece (Elt F) s e)) :
    View.canon L = over (fun _ => Classical.arbitrary _) L := by
  induction L with
  | nil => rfl
  | cons p L ih => rw [View.canon_cons, ih]; rfl

section Blocks

variable (x0 : Vec F S1 .f32) (x1 : Vec F S1x4x96x304 .fp8e4m3) (x2 : Vec F S1x2x152x256 .f32) (x3 : Vec F S96x256 .fp8e4m3)
  (x4 x5 : Vec F S1x256 .f32) (x6 : Vec F S9x256x256 .fp8e4m3) (x7 x8 : Vec F S1x256 .f32)

/-- Lanes of a coarse row, as they are put on the even and on the odd rows of the upsampled one. -/
def coarse0 : Vec F S1x1x152x128 .f32 := View.ld x2 (Rect.unit ![0, 0, 0, 0] S1x1x152x128.size inb_S1x2x152x256_S1x1x152x128_0_0_0_0)
def coarse1 : Vec F S1x1x152x128 .f32 := View.ld x2 (Rect.unit ![0, 0, 0, 128] S1x1x152x128.size inb_S1x2x152x256_S1x1x152x128_0_0_0_128)
def coarse2 : Vec F S1x1x152x128 .f32 := View.ld x2 (Rect.unit ![0, 1, 0, 0] S1x1x152x128.size inb_S1x2x152x256_S1x1x152x128_0_1_0_0)
def coarse3 : Vec F S1x1x152x128 .f32 := View.ld x2 (Rect.unit ![0, 1, 0, 128] S1x1x152x128.size inb_S1x2x152x256_S1x1x152x128_0_1_0_128)

/-- The four writes that upsample a coarse row. -/
def upList (a b : Vec F S1x1x152x128 .f32) (L : List (View.Piece (Elt F) S2x304x128 .f32)) : List (View.Piece (Elt F) S2x304x128 .f32) :=
  ⟨{ off := ![1, 1, 0], size := S1x152x128.size, stride := ![1, 2, 1], inb := inb_S2x304x128_S1x152x128_1_1_0_s_1_2_1, stride_pos := spos_1_2_1 }, k0_pay9 b⟩ ::
  ⟨{ off := ![1, 0, 0], size := S1x152x128.size, stride := ![1, 2, 1], inb := inb_S2x304x128_S1x152x128_1_0_0_s_1_2_1, stride_pos := spos_1_2_1 }, k0_pay9 b⟩ ::
  ⟨{ off := ![0, 1, 0], size := S1x152x128.size, stride := ![1, 2, 1], inb := inb_S2x304x128_S1x152x128_0_1_0_s_1_2_1, stride_pos := spos_1_2_1 }, k0_pay9 a⟩ ::
  ⟨{ off := ![0, 0, 0], size := S1x152x128.size, stride := ![1, 2, 1], inb := inb_S2x304x128_S1x152x128_0_0_0_s_1_2_1, stride_pos := spos_1_2_1 }, k0_pay9 a⟩ :: L

/-- The upsampled row's two lane halves, of the two coarse rows. -/
def up0 (L : List (View.Piece (Elt F) S2x304x128 .f32)) : Vec F S1x304x128 .f32 :=
  View.ld (View.canon L) (Rect.unit (s := S2x304x128) ![0, 0, 0] S1x304x128.size inb_S2x304x128_S1x304x128_0_0_0)
def up1 (L : List (View.Piece (Elt F) S2x304x128 .f32)) : Vec F S1x304x128 .f32 :=
  View.ld (View.canon L) (Rect.unit (s := S2x304x128) ![1, 0, 0] S1x304x128.size inb_S2x304x128_S1x304x128_1_0_0)

/-- A merged row of the block. -/
def mrow (c : Vec F S1x1x96x304 .fp8e4m3) (L : List (View.Piece (Elt F) S2x304x128 .f32)) : FVec F S304x256 .f32 :=
  Row.merged (View.ld x0 (Rect.unit ![0] ![1] inb_S1_S1_0) (Shape.Idx.first (by decide)))
    (View.ld x4 (Rect.unit ![0, 0] ![1, 256] inb_S1x256_S1x256_0_0)) (View.ld x5 (Rect.unit ![0, 0] ![1, 256] inb_S1x256_S1x256_0_0))
    c (View.ld x3 (Rect.unit ![0, 0] S96x256.size inb_S96x256_S96x256_0_0)) (up0 L) (up1 L)

/-- The four merged rows. -/
def m0 : FVec F S304x256 .f32 :=
  mrow x0 x3 x4 x5 (View.ld x1 (Rect.unit ![0, 0, 0, 0] S1x1x96x304.size inb_S1x4x96x304_S1x1x96x304_0_0_0_0))
    (upList (coarse0 x2) (coarse1 x2) [])
def m1 : FVec F S304x256 .f32 :=
  mrow x0 x3 x4 x5 (View.ld x1 (Rect.unit ![0, 1, 0, 0] S1x1x96x304.size inb_S1x4x96x304_S1x1x96x304_0_1_0_0))
    (upList (coarse0 x2) (coarse1 x2) [])
def m2 : FVec F S304x256 .f32 :=
  mrow x0 x3 x4 x5 (View.ld x1 (Rect.unit ![0, 2, 0, 0] S1x1x96x304.size inb_S1x4x96x304_S1x1x96x304_0_2_0_0))
    (upList (coarse2 x2) (coarse3 x2) (upList (coarse0 x2) (coarse1 x2) []))
def m3 : FVec F S304x256 .f32 :=
  mrow x0 x3 x4 x5 (View.ld x1 (Rect.unit ![0, 3, 0, 0] S1x1x96x304.size inb_S1x4x96x304_S1x1x96x304_0_3_0_0))
    (upList (coarse2 x2) (coarse3 x2) (upList (coarse0 x2) (coarse1 x2) []))

end Blocks

/-- The block of codes, of four merged rows, -/
def qList (m0 m1 m2 m3 : FVec F S304x256 .f32) : List (View.Piece (Elt F) S1x4x304x256 .fp8e4m3) :=
  [⟨Rect.unit ![0, 3, 0, 0] S1x1x304x256.size inb_S1x4x304x256_S1x1x304x256_0_3_0_0, Row.qRow m3⟩,
   ⟨Rect.unit ![0, 2, 0, 0] S1x1x304x256.size inb_S1x4x304x256_S1x1x304x256_0_2_0_0, Row.qRow m2⟩,
   ⟨Rect.unit ![0, 1, 0, 0] S1x1x304x256.size inb_S1x4x304x256_S1x1x304x256_0_1_0_0, Row.qRow m1⟩,
   ⟨Rect.unit ![0, 0, 0, 0] S1x1x304x256.size inb_S1x4x304x256_S1x1x304x256_0_0_0_0, Row.qRow m0⟩]

/-- of scales, -/
def scList (m0 m1 m2 m3 : FVec F S304x256 .f32) : List (View.Piece (Elt F) S1x4x8x304 .f32) :=
  [⟨Rect.unit ![0, 3, 0, 0] S1x1x8x304.size inb_S1x4x8x304_S1x1x8x304_0_3_0_0, Row.scRow m3⟩,
   ⟨Rect.unit ![0, 2, 0, 0] S1x1x8x304.size inb_S1x4x8x304_S1x1x8x304_0_2_0_0, Row.scRow m2⟩,
   ⟨Rect.unit ![0, 1, 0, 0] S1x1x8x304.size inb_S1x4x8x304_S1x1x8x304_0_1_0_0, Row.scRow m1⟩,
   ⟨Rect.unit ![0, 0, 0, 0] S1x1x8x304.size inb_S1x4x8x304_S1x1x8x304_0_0_0_0, Row.scRow m0⟩]

/-- and the rows of dequantised values, in the scratch map they are put in. -/
def rows (m0 m1 m2 m3 : FVec F S304x256 .f32) (L : List (View.Piece (Elt F) S2x6x320x128 .f32)) : List (View.Piece (Elt F) S2x6x320x128 .f32) :=
  ⟨Rect.unit ![1, 4, 8, 0] S1x1x304x128.size inb_S2x6x320x128_S1x1x304x128_1_4_8_0, Row.xRow1 m3⟩ ::
  ⟨Rect.unit ![0, 4, 8, 0] S1x1x304x128.size inb_S2x6x320x128_S1x1x304x128_0_4_8_0, Row.xRow0 m3⟩ ::
  ⟨Rect.unit ![1, 3, 8, 0] S1x1x304x128.size inb_S2x6x320x128_S1x1x304x128_1_3_8_0, Row.xRow1 m2⟩ ::
  ⟨Rect.unit ![0, 3, 8, 0] S1x1x304x128.size inb_S2x6x320x128_S1x1x304x128_0_3_8_0, Row.xRow0 m2⟩ ::
  ⟨Rect.unit ![1, 2, 8, 0] S1x1x304x128.size inb_S2x6x320x128_S1x1x304x128_1_2_8_0, Row.xRow1 m1⟩ ::
  ⟨Rect.unit ![0, 2, 8, 0] S1x1x304x128.size inb_S2x6x320x128_S1x1x304x128_0_2_8_0, Row.xRow0 m1⟩ ::
  ⟨Rect.unit ![1, 1, 8, 0] S1x1x304x128.size inb_S2x6x320x128_S1x1x304x128_1_1_8_0, Row.xRow1 m0⟩ ::
  ⟨Rect.unit ![0, 1, 8, 0] S1x1x304x128.size inb_S2x6x320x128_S1x1x304x128_0_1_8_0, Row.xRow0 m0⟩ :: L

/-- Whether a point is an image's first. -/
def flag (i : grid0.Coords) : BitVec 1 := Scalar.cmpi .eq (Scalar.remsi (BitVec.ofNat 32 (i 0).val) 44#32) 0#32

/-- A row put beyond a map's edge: zeros at an image's first point. -/
def edge (f : BitVec 1) (v : Vec F S1x1x320x128 .f32) : FVec F S1x1x320x128 .f32 := k0_pay103 f v

/-- A whole row of a scratch map. -/
def scratchRow (X : S2x6x320x128.Idx → Elt F .f32) (off : Fin 4 → ℕ) (inb : ∀ a, off a + S1x1x320x128.size a ≤ S2x6x320x128.size a) :
    Vec F S1x1x320x128 .f32 := View.ld X (Rect.unit (s := S2x6x320x128) off S1x1x320x128.size inb)

/-- The writes to the map that the point fills: its first rows are the other map's last ones. -/
def dstList (f : BitVec 1) (S0 S1 : S2x6x320x128.Idx → Elt F .f32) (R : List (View.Piece (Elt F) S2x6x320x128 .f32)) :
    List (View.Piece (Elt F) S2x6x320x128 .f32) :=
  ⟨Rect.unit ![1, 0, 0, 0] S1x1x320x128.size inb_S2x6x320x128_S1x1x320x128_1_0_0_0, edge f (scratchRow S1 ![1, 4, 0, 0] inb_S2x6x320x128_S1x1x320x128_1_4_0_0)⟩ ::
  ⟨Rect.unit ![0, 0, 0, 0] S1x1x320x128.size inb_S2x6x320x128_S1x1x320x128_0_0_0_0, edge f (scratchRow S0 ![0, 4, 0, 0] inb_S2x6x320x128_S1x1x320x128_0_4_0_0)⟩ :: R

/-- The writes to the other map: its rows beyond the end are the filled map's first new ones. -/
def srcList (f : BitVec 1) (D0 D1 : S2x6x320x128.Idx → Elt F .f32) (R : List (View.Piece (Elt F) S2x6x320x128 .f32)) :
    List (View.Piece (Elt F) S2x6x320x128 .f32) :=
  ⟨Rect.unit ![1, 5, 0, 0] S1x1x320x128.size inb_S2x6x320x128_S1x1x320x128_1_5_0_0, edge f (scratchRow D1 ![1, 1, 0, 0] inb_S2x6x320x128_S1x1x320x128_1_1_0_0)⟩ ::
  ⟨Rect.unit ![0, 5, 0, 0] S1x1x320x128.size inb_S2x6x320x128_S1x1x320x128_0_5_0_0, edge f (scratchRow D0 ![0, 1, 0, 0] inb_S2x6x320x128_S1x1x320x128_0_1_0_0)⟩ :: R

/-- The first writes of the grid: zeros everywhere. -/
def zeros : List (View.Piece (Elt F) S2x6x320x128 .f32) := [⟨Rect.unit ![0, 0, 0, 0] ![2, 6, 320, 128] inb_S2x6x320x128_S2x6x320x128_0_0_0_0, k0_pay1⟩]

/-- A window of a scratch map: 304 columns of a row's half. -/
def win (X : S2x6x320x128.Idx → Elt F .f32) (off : Fin 4 → ℕ) (inb : ∀ a, off a + S1x1x304x128.size a ≤ S2x6x320x128.size a) :
    Vec F S1x1x304x128 .f32 := View.ld X (Rect.unit (s := S2x6x320x128) off S1x1x304x128.size inb)

section Out

variable (x6 : Vec F S9x256x256 .fp8e4m3) (x7 x8 : Vec F S1x256 .f32) (W : Fin 6 → Fin 2 → Fin 3 → Vec F S1x1x304x128 .f32)

/-- Row 0 of the convolution, of the windows (by row, half and shift). -/
def p0 : FVec F S1x1x304x256 .bf16 :=
  Row.pRow (W 0 0 0) (W 0 1 0) (W 0 0 1) (W 0 1 1) (W 0 0 2) (W 0 1 2) (W 1 0 0) (W 1 1 0) (W 1 0 1) (W 1 1 1) (W 1 0 2) (W 1 1 2) (W 2 0 0) (W 2 1 0) (W 2 0 1) (W 2 1 1) (W 2 0 2) (W 2 1 2)
      (View.ld x6 (Rect.unit ![0, 0, 0] S1x256x256.size inb_S9x256x256_S1x256x256_0_0_0)) (View.ld x6 (Rect.unit ![1, 0, 0] S1x256x256.size inb_S9x256x256_S1x256x256_1_0_0)) (View.ld x6 (Rect.unit ![2, 0, 0] S1x256x256.size inb_S9x256x256_S1x256x256_2_0_0))
      (View.ld x6 (Rect.unit ![3, 0, 0] S1x256x256.size inb_S9x256x256_S1x256x256_3_0_0)) (View.ld x6 (Rect.unit ![4, 0, 0] S1x256x256.size inb_S9x256x256_S1x256x256_4_0_0)) (View.ld x6 (Rect.unit ![5, 0, 0] S1x256x256.size inb_S9x256x256_S1x256x256_5_0_0))
      (View.ld x6 (Rect.unit ![6, 0, 0] S1x256x256.size inb_S9x256x256_S1x256x256_6_0_0)) (View.ld x6 (Rect.unit ![7, 0, 0] S1x256x256.size inb_S9x256x256_S1x256x256_7_0_0)) (View.ld x6 (Rect.unit ![8, 0, 0] S1x256x256.size inb_S9x256x256_S1x256x256_8_0_0))
      (View.ld x7 (Rect.unit ![0, 0] S1x256.size inb_S1x256_S1x256_0_0)) (View.ld x8 (Rect.unit ![0, 0] S1x256.size inb_S1x256_S1x256_0_0))

/-- Row 1 of the convolution, of the windows (by row, half and shift). -/
def p1 : FVec F S1x1x304x256 .bf16 :=
  Row.pRow (W 1 0 0) (W 1 1 0) (W 1 0 1) (W 1 1 1) (W 1 0 2) (W 1 1 2) (W 2 0 0) (W 2 1 0) (W 2 0 1) (W 2 1 1) (W 2 0 2) (W 2 1 2) (W 3 0 0) (W 3 1 0) (W 3 0 1) (W 3 1 1) (W 3 0 2) (W 3 1 2)
      (View.ld x6 (Rect.unit ![0, 0, 0] S1x256x256.size inb_S9x256x256_S1x256x256_0_0_0)) (View.ld x6 (Rect.unit ![1, 0, 0] S1x256x256.size inb_S9x256x256_S1x256x256_1_0_0)) (View.ld x6 (Rect.unit ![2, 0, 0] S1x256x256.size inb_S9x256x256_S1x256x256_2_0_0))
      (View.ld x6 (Rect.unit ![3, 0, 0] S1x256x256.size inb_S9x256x256_S1x256x256_3_0_0)) (View.ld x6 (Rect.unit ![4, 0, 0] S1x256x256.size inb_S9x256x256_S1x256x256_4_0_0)) (View.ld x6 (Rect.unit ![5, 0, 0] S1x256x256.size inb_S9x256x256_S1x256x256_5_0_0))
      (View.ld x6 (Rect.unit ![6, 0, 0] S1x256x256.size inb_S9x256x256_S1x256x256_6_0_0)) (View.ld x6 (Rect.unit ![7, 0, 0] S1x256x256.size inb_S9x256x256_S1x256x256_7_0_0)) (View.ld x6 (Rect.unit ![8, 0, 0] S1x256x256.size inb_S9x256x256_S1x256x256_8_0_0))
      (View.ld x7 (Rect.unit ![0, 0] S1x256.size inb_S1x256_S1x256_0_0)) (View.ld x8 (Rect.unit ![0, 0] S1x256.size inb_S1x256_S1x256_0_0))

/-- Row 2 of the convolution, of the windows (by row, half and shift). -/
def p2 : FVec F S1x1x304x256 .bf16 :=
  Row.pRow (W 2 0 0) (W 2 1 0) (W 2 0 1) (W 2 1 1) (W 2 0 2) (W 2 1 2) (W 3 0 0) (W 3 1 0) (W 3 0 1) (W 3 1 1) (W 3 0 2) (W 3 1 2) (W 4 0 0) (W 4 1 0) (W 4 0 1) (W 4 1 1) (W 4 0 2) (W 4 1 2)
      (View.ld x6 (Rect.unit ![0, 0, 0] S1x256x256.size inb_S9x256x256_S1x256x256_0_0_0)) (View.ld x6 (Rect.unit ![1, 0, 0] S1x256x256.size inb_S9x256x256_S1x256x256_1_0_0)) (View.ld x6 (Rect.unit ![2, 0, 0] S1x256x256.size inb_S9x256x256_S1x256x256_2_0_0))
      (View.ld x6 (Rect.unit ![3, 0, 0] S1x256x256.size inb_S9x256x256_S1x256x256_3_0_0)) (View.ld x6 (Rect.unit ![4, 0, 0] S1x256x256.size inb_S9x256x256_S1x256x256_4_0_0)) (View.ld x6 (Rect.unit ![5, 0, 0] S1x256x256.size inb_S9x256x256_S1x256x256_5_0_0))
      (View.ld x6 (Rect.unit ![6, 0, 0] S1x256x256.size inb_S9x256x256_S1x256x256_6_0_0)) (View.ld x6 (Rect.unit ![7, 0, 0] S1x256x256.size inb_S9x256x256_S1x256x256_7_0_0)) (View.ld x6 (Rect.unit ![8, 0, 0] S1x256x256.size inb_S9x256x256_S1x256x256_8_0_0))
      (View.ld x7 (Rect.unit ![0, 0] S1x256.size inb_S1x256_S1x256_0_0)) (View.ld x8 (Rect.unit ![0, 0] S1x256.size inb_S1x256_S1x256_0_0))

/-- Row 3 of the convolution, of the windows (by row, half and shift). -/
def p3 : FVec F S1x1x304x256 .bf16 :=
  Row.pRow (W 3 0 0) (W 3 1 0) (W 3 0 1) (W 3 1 1) (W 3 0 2) (W 3 1 2) (W 4 0 0) (W 4 1 0) (W 4 0 1) (W 4 1 1) (W 4 0 2) (W 4 1 2) (W 5 0 0) (W 5 1 0) (W 5 0 1) (W 5 1 1) (W 5 0 2) (W 5 1 2)
      (View.ld x6 (Rect.unit ![0, 0, 0] S1x256x256.size inb_S9x256x256_S1x256x256_0_0_0)) (View.ld x6 (Rect.unit ![1, 0, 0] S1x256x256.size inb_S9x256x256_S1x256x256_1_0_0)) (View.ld x6 (Rect.unit ![2, 0, 0] S1x256x256.size inb_S9x256x256_S1x256x256_2_0_0))
      (View.ld x6 (Rect.unit ![3, 0, 0] S1x256x256.size inb_S9x256x256_S1x256x256_3_0_0)) (View.ld x6 (Rect.unit ![4, 0, 0] S1x256x256.size inb_S9x256x256_S1x256x256_4_0_0)) (View.ld x6 (Rect.unit ![5, 0, 0] S1x256x256.size inb_S9x256x256_S1x256x256_5_0_0))
      (View.ld x6 (Rect.unit ![6, 0, 0] S1x256x256.size inb_S9x256x256_S1x256x256_6_0_0)) (View.ld x6 (Rect.unit ![7, 0, 0] S1x256x256.size inb_S9x256x256_S1x256x256_7_0_0)) (View.ld x6 (Rect.unit ![8, 0, 0] S1x256x256.size inb_S9x256x256_S1x256x256_8_0_0))
      (View.ld x7 (Rect.unit ![0, 0] S1x256.size inb_S1x256_S1x256_0_0)) (View.ld x8 (Rect.unit ![0, 0] S1x256.size inb_S1x256_S1x256_0_0))

/-- The block of the convolution. -/
def pList : List (View.Piece (Elt F) S1x4x304x256 .bf16) :=
  [⟨Rect.unit ![0, 3, 0, 0] S1x1x304x256.size inb_S1x4x304x256_S1x1x304x256_0_3_0_0, p3 x6 x7 x8 W⟩,
   ⟨Rect.unit ![0, 2, 0, 0] S1x1x304x256.size inb_S1x4x304x256_S1x1x304x256_0_2_0_0, p2 x6 x7 x8 W⟩,
   ⟨Rect.unit ![0, 1, 0, 0] S1x1x304x256.size inb_S1x4x304x256_S1x1x304x256_0_1_0_0, p1 x6 x7 x8 W⟩,
   ⟨Rect.unit ![0, 0, 0, 0] S1x1x304x256.size inb_S1x4x304x256_S1x1x304x256_0_0_0_0, p0 x6 x7 x8 W⟩]

end Out

end Cert.Level2.Step

end
-- ==== Proof.RowValue.lean ====
/- What each of a row's terms is at each index, when the merged row is the map's. -/
module

public import proofs.«01_k».proof.Proof.Row

@[expose] public section

noncomputable section

namespace Cert.Level2

open Idealize.ShloMosaic Cert.KernelIdeal Cert.KernelIdeal.Gen

/-- The channel that the kernel keeps in column `p`: a block's 32 channels lie eight columns apart. -/
def orig (p : Fin 256) : Fin 256 := ⟨p.val % 8 * 32 + p.val / 128 * 16 + p.val % 128 / 8, by omega⟩

/-- The column that a channel is kept in. -/
def column (d : Fin 256) : Fin 256 := ⟨d.val % 32 / 16 * 128 + d.val % 16 * 8 + d.val / 32, by omega⟩

theorem orig_column : ∀ d : Fin 256, orig (column d) = d := by decide +kernel
theorem column_orig : ∀ p : Fin 256, column (orig p) = p := by decide +kernel

/-- The columns and the channels, one to one. -/
def order : Fin 256 ≃ Fin 256 := ⟨orig, column, column_orig, orig_column⟩

/-- A lane's column in the first and in the second half. -/
def lo (l : Fin 128) : Fin 256 := ⟨l.val, by omega⟩
def hi (l : Fin 128) : Fin 256 := ⟨128 + l.val, by omega⟩

/-- A sum over the two halves' lanes is the sum over the channels. -/
theorem sum_halves (f : Fin 256 → EReal) : (∑ l : Fin 128, f (orig (lo l))) + (∑ l : Fin 128, f (orig (hi l))) = ∑ d : Fin 256, f d := by
  rw [← Equiv.sum_comp order f]
  exact (Fin.sum_univ_add (a := 128) (b := 128) fun p => f (orig p)).symm

/-- A lane's block. -/
def laneBlock (l : Fin 128) : Fin 8 := ⟨l.val % 8, by omega⟩

theorem blockOf_lo : ∀ l : Fin 128, blockOf (orig (lo l)) = laneBlock l := by decide +kernel
theorem blockOf_hi : ∀ l : Fin 128, blockOf (orig (hi l)) = laneBlock l := by decide +kernel
theorem orig_lo : ∀ l : Fin 128, orig (lo l) = chan (laneBlock l) ⟨l.val / 8, by omega⟩ := by decide +kernel
theorem orig_hi : ∀ l : Fin 128, orig (hi l) = chan (laneBlock l) ⟨16 + l.val / 8, by omega⟩ := by decide +kernel

section Rolls

/-- The greatest of the values at the lanes that are a lane's own modulo `s`. -/
def group (s : ℕ) (f : Fin 128 → ℕ) (l : Fin 128) : ℕ := Finset.univ.sup fun k : Fin 128 => if k.val % s = l.val % s then f k else 0

theorem le_group (s : ℕ) (f : Fin 128 → ℕ) (l k : Fin 128) (h : k.val % s = l.val % s) : f k ≤ group s f l := by
  have := Finset.le_sup (f := fun k : Fin 128 => if k.val % s = l.val % s then f k else 0) (Finset.mem_univ k)
  exact le_trans (le_of_eq (if_pos h).symm) this

theorem group_le (s : ℕ) (f : Fin 128 → ℕ) (l : Fin 128) (n : ℕ) (h : ∀ k : Fin 128, k.val % s = l.val % s → f k ≤ n) : group s f l ≤ n := by
  refine Finset.sup_le fun k _ => ?_
  split
  · exact h k ‹_›
  · omega

/-- The lane `s` before a lane, round. -/
def back (s : ℕ) (l : Fin 128) : Fin 128 := ⟨(l.val + 128 - s) % 128, by omega⟩

theorem group_128 (f : Fin 128 → ℕ) (l : Fin 128) : group 128 f l = f l := by
  refine le_antisymm (group_le _ _ _ _ fun k hk => ?_) (le_group _ _ _ _ rfl)
  rw [show k = l from Fin.ext (by omega)]

theorem group_step (s t : ℕ) (f : Fin 128 → ℕ) (l : Fin 128)
    (h : ∀ k : Fin 128, k.val % s = l.val % s ↔ k.val % t = l.val % t ∨ k.val % t = (back s l).val % t) :
    max (group t f l) (group t f (back s l)) = group s f l := by
  refine le_antisymm (max_le ?_ ?_) (group_le _ _ _ _ fun k hk => ?_)
  · exact group_le _ _ _ _ fun k hk => le_group _ _ _ _ ((h k).2 (.inl hk))
  · exact group_le _ _ _ _ fun k hk => le_group _ _ _ _ ((h k).2 (.inr hk))
  · rcases (h k).1 hk with h1 | h1
    · exact le_max_of_le_left (le_group _ _ _ _ h1)
    · exact le_max_of_le_right (le_group _ _ _ _ h1)

theorem group_64 (f : Fin 128 → ℕ) (l : Fin 128) : max (group 128 f l) (group 128 f (back 64 l)) = group 64 f l :=
  group_step 64 128 f l fun k => by simp only [back]; omega
theorem group_32 (f : Fin 128 → ℕ) (l : Fin 128) : max (group 64 f l) (group 64 f (back 32 l)) = group 32 f l :=
  group_step 32 64 f l fun k => by simp only [back]; omega
theorem group_16 (f : Fin 128 → ℕ) (l : Fin 128) : max (group 32 f l) (group 32 f (back 16 l)) = group 16 f l :=
  group_step 16 32 f l fun k => by simp only [back]; omega
theorem group_8 (f : Fin 128 → ℕ) (l : Fin 128) : max (group 16 f l) (group 16 f (back 8 l)) = group 8 f l :=
  group_step 8 16 f l fun k => by simp only [back]; omega

end Rolls

section Maximum

theorem c448_pos : 0 < c448 := by
  unfold c448
  have : Ideal.ofBits .f32 0x3B124925#32 = (((9586981 : ℝ) / 4294967296 : ℝ) : EReal) := by
    simp [Ideal.ofBits, Ideal.ieee, -EReal.coe_mul]; norm_num
  rw [this]
  exact_mod_cast (by norm_num : (0 : ℝ) < 9586981 / 4294967296)

theorem c448_ne_top : c448 ≠ ⊤ := by
  unfold c448
  have : Ideal.ofBits .f32 0x3B124925#32 = (((9586981 : ℝ) / 4294967296 : ℝ) : EReal) := by
    simp [Ideal.ofBits, Ideal.ieee, -EReal.coe_mul]; norm_num
  rw [this]
  exact EReal.coe_ne_top _

/-- The magnitude of a value over 448. -/
def over448 (x : EReal) : EReal := max x (-x) * c448

theorem over448_eq (x : EReal) : max (x * c448) (-(x * c448)) = over448 x := by
  unfold over448
  rw [← EReal.neg_mul]
  exact (Monotone.map_max (f := fun y : EReal => y * c448) fun _ _ h => mul_le_mul_of_nonneg_right h c448_pos.le).symm

theorem over448_nonneg (x : EReal) : 0 ≤ over448 x := by
  unfold over448
  refine mul_nonneg ?_ c448_pos.le
  rcases le_total 0 x with h | h
  · exact le_max_of_le_left h
  · exact le_max_of_le_right (by rwa [EReal.neg_nonneg])

/-- The exponent of a greatest magnitude over 448 is the greatest of the magnitudes' exponents. -/
theorem expo_fold (s : Finset (Fin 32)) (f : Fin 32 → EReal) :
    expo ((s.fold max ⊥ fun k => max (f k) (-(f k))) * c448) = s.sup fun k => expo (over448 (f k)) := by
  classical
  induction s using Finset.induction_on with
  | empty => simp only [Finset.fold_empty, Finset.sup_empty, EReal.bot_mul_of_pos c448_pos, expo_bot]; rfl
  | insert a s ha ih =>
    rw [Finset.fold_insert ha, Finset.sup_insert, ← ih]
    rw [show max (max (f a) (-(f a))) (s.fold max ⊥ fun k => max (f k) (-(f k))) * c448
      = max (max (f a) (-(f a)) * c448) ((s.fold max ⊥ fun k => max (f k) (-(f k))) * c448) from
        Monotone.map_max (f := fun y : EReal => y * c448) fun _ _ h => mul_le_mul_of_nonneg_right h c448_pos.le]
    exact expo_max _ _

/-- The lanes of a block's columns hold the block's channels. -/
theorem group_block (f : Fin 256 → ℕ) (l : Fin 128) :
    group 8 (fun l => max (f (orig (lo l))) (f (orig (hi l)))) l = Finset.univ.sup fun k : Fin 32 => f (chan (laneBlock l) k) := by
  refine le_antisymm (group_le _ _ _ _ fun k hk => ?_) (Finset.sup_le fun k _ => ?_)
  · have hb : laneBlock k = laneBlock l := Fin.ext hk
    rw [orig_lo, orig_hi, hb]
    exact max_le (Finset.le_sup (f := fun k : Fin 32 => f (chan (laneBlock l) k)) (Finset.mem_univ _))
      (Finset.le_sup (f := fun k : Fin 32 => f (chan (laneBlock l) k)) (Finset.mem_univ _))
  · have hk : (k.val % 16 * 8 + l.val % 8) % 8 = l.val % 8 := by omega
    have hv : k.val % 16 * 8 + l.val % 8 < 128 := by omega
    have hd : (k.val % 16 * 8 + l.val % 8) / 8 = k.val % 16 := by omega
    have hb : laneBlock ⟨k.val % 16 * 8 + l.val % 8, hv⟩ = laneBlock l := Fin.ext hk
    refine le_trans ?_ (le_group 8 _ l ⟨k.val % 16 * 8 + l.val % 8, hv⟩ hk)
    rw [orig_lo, orig_hi, hb]
    by_cases h : k.val < 16
    · exact le_max_of_le_left (le_of_eq (congrArg (fun j => f (chan (laneBlock l) j)) (Fin.ext (by simp only [hd]; omega))))
    · exact le_max_of_le_right (le_of_eq (congrArg (fun j => f (chan (laneBlock l) j)) (Fin.ext (by simp only [hd]; omega))))

end Maximum

namespace Row

/-- The merged row is row `h` of the map, its columns in the kernel's order. -/
def IsRow (I : Inputs) (b : Fin 12) (h : Fin 176) (m : FVec Ideal S304x256 .f32) : Prop := ∀ w p, m (ix2 w p) = I.map b h w (orig p)

variable {I : Inputs} {b : Fin 12} {h : Fin 176} {m : FVec Ideal S304x256 .f32} (H : IsRow I b h m)

theorem mag_at (w : Fin 304) (p : Fin 256) : mag m (ix2 w p) = min (over448 (m (ix2 w p))) (pw 252) := by
  pointwise [mag]
  rw [← over448_eq]
  rfl

theorem srch_at (x : FVec Ideal S304x256 .f32) (e : IVec S304x256 32) (s : BitVec 32) (w : Fin 304) (p : Fin 256) :
    srch x e s (ix2 w p) = stepW (x (ix2 w p)) (e (ix2 w p)) s := by
  pointwise [srch]
  rfl

theorem words_at (w : Fin 304) (p : Fin 256) : words m (ix2 w p) = word (expo (over448 (m (ix2 w p)))) := by
  unfold words
  simp only [srch_at, mag_at]
  exact search_eq _ (over448_nonneg _)

/-- The exponents of a row's magnitudes, by channel. -/
def expos (I : Inputs) (b : Fin 12) (h : Fin 176) (w : Fin 304) (d : Fin 256) : ℕ := expo (over448 (I.map b h w d))

theorem expos_lt (w : Fin 304) (d : Fin 256) : expos I b h w d < 256 := lt_of_le_of_lt (expo_le _) (by norm_num)

/-- The greatest of a row's exponents in two columns a half apart. -/
def pairs (I : Inputs) (b : Fin 12) (h : Fin 176) (w : Fin 304) (l : Fin 128) : ℕ := max (expos I b h w (orig (lo l))) (expos I b h w (orig (hi l)))

theorem pairs_lt (w : Fin 304) (l : Fin 128) : pairs I b h w l < 256 := max_lt (expos_lt _ _) (expos_lt _ _)

theorem group_lt (s : ℕ) (w : Fin 304) (l : Fin 128) : group s (pairs I b h w) l < 256 :=
  lt_of_le_of_lt (group_le _ _ _ 255 fun k _ => Nat.le_of_lt_succ (pairs_lt w k)) (by norm_num)

include H in
theorem halves_at (w : Fin 304) (l : Fin 128) : halves (words m) (ix2 w l) = word (group 128 (pairs I b h w) l) := by
  pointwise [halves]
  rw [words_at, words_at, H, H, group_128]
  exact word_max _ _ (expos_lt _ _) (expos_lt _ _)

theorem fold_at (s t u : ℕ) (hs : s < 128) (e : IVec S304x128 32) (he : ∀ w l, e (ix2 w l) = word (group t (pairs I b h w) l))
    (hu : ∀ w l, max (group t (pairs I b h w) l) (group t (pairs I b h w) (back s l)) = group u (pairs I b h w) l) (w : Fin 304) (l : Fin 128)
    (hr : fold (BitVec.ofNat 32 s) e (ix2 w l) = IntOp.maxsi (e (ix2 w l)) (e (ix2 w (back s l)))) :
    fold (BitVec.ofNat 32 s) e (ix2 w l) = word (group u (pairs I b h w) l) := by
  rw [hr, he, he, word_max _ _ (group_lt _ _ _) (group_lt _ _ _), hu]

theorem roll_64 (e : IVec S304x128 32) (w : Fin 304) (l : Fin 128) :
    fold 64#32 e (ix2 w l) = IntOp.maxsi (e (ix2 w l)) (e (ix2 w (back 64 l))) := by pointwise [fold, back]
theorem roll_32 (e : IVec S304x128 32) (w : Fin 304) (l : Fin 128) :
    fold 32#32 e (ix2 w l) = IntOp.maxsi (e (ix2 w l)) (e (ix2 w (back 32 l))) := by pointwise [fold, back]
theorem roll_16 (e : IVec S304x128 32) (w : Fin 304) (l : Fin 128) :
    fold 16#32 e (ix2 w l) = IntOp.maxsi (e (ix2 w l)) (e (ix2 w (back 16 l))) := by pointwise [fold, back]
theorem roll_8 (e : IVec S304x128 32) (w : Fin 304) (l : Fin 128) :
    fold 8#32 e (ix2 w l) = IntOp.maxsi (e (ix2 w l)) (e (ix2 w (back 8 l))) := by pointwise [fold, back]

include H in
/-- Each lane's word is its block's greatest exponent's. -/
theorem blocks_at (w : Fin 304) (l : Fin 128) : blocks m (ix2 w l) = word (expo (I.amax b h w (laneBlock l))) := by
  have e : blocks m (ix2 w l) = word (group 8 (pairs I b h w) l) :=
    fold_at 8 16 8 (by norm_num) _ (fun w l => fold_at 16 32 16 (by norm_num) _ (fun w l => fold_at 32 64 32 (by norm_num) _
      (fun w l => fold_at 64 128 64 (by norm_num) _ (halves_at H) (fun w l => group_64 _ l) w l (roll_64 _ w l))
      (fun w l => group_32 _ l) w l (roll_32 _ w l)) (fun w l => group_16 _ l) w l (roll_16 _ w l)) (fun w l => group_8 _ l) w l (roll_8 _ w l)
  rw [e]
  exact congrArg word ((group_block (expos I b h w) l).trans (expo_fold Finset.univ fun k => I.map b h w (chan (laneBlock l) k)).symm)

include H in
theorem expw_at (w : Fin 304) (l : Fin 128) : expw m (ix2 w l) = word (expo1 (I.amax b h w (laneBlock l))) := by
  pointwise [expw]
  rw [blocks_at H]
  have hx : expo (I.amax b h w (laneBlock l)) < 256 := lt_of_le_of_lt (expo_le _) (by norm_num)
  unfold expo1
  by_cases h0 : expo (I.amax b h w (laneBlock l)) = 0
  · rw [if_pos h0, h0]; rfl
  · rw [if_neg h0]
    have hne : word (expo (I.amax b h w (laneBlock l))) ≠ 0#32 := fun hc => h0 ((word_inj _ hx).1 hc)
    have hb : (word (expo (I.amax b h w (laneBlock l))) == 0#32) = false := beq_eq_false_iff_ne.2 hne
    show (if BitVec.ofBool (word (expo (I.amax b h w (laneBlock l))) == 0#32) = 1#1 then _ else _) = _
    rw [hb]
    rfl

include H in
theorem scales_at (w : Fin 304) (l : Fin 128) : scales m (ix2 w l) = I.scale b h w (laneBlock l) := by
  pointwise [scales]
  rw [expw_at H]
  show Ideal.ofBits .f32 (word _ + word 1) = _
  rw [word_add]
  rfl

include H in
theorem invs_at (w : Fin 304) (l : Fin 128) : invs m (ix2 w l) = rcp (I.amax b h w (laneBlock l)) := by
  pointwise [invs]
  rw [expw_at H]
  show Ideal.ofBits .f32 (word 253 - word _) = _
  rw [word_sub _ _ (by have := expo1_le (I.amax b h w (laneBlock l)); omega) (by norm_num)]
  rfl

include H in
theorem codes_at (w : Fin 304) (p : Fin 256) : codes m (ix2 w p) = I.code b h w (orig p) := by
  have hinv : (if h : p.val < 128 then invs m (ix2 w ⟨p.val, h⟩) else invs m (ix2 w ⟨p.val - 128, by omega⟩))
      = rcp (I.amax b h w (blockOf (orig p))) := by
    by_cases hp : p.val < 128
    · rw [dif_pos hp, invs_at H, ← blockOf_lo]; rfl
    · rw [dif_neg hp, invs_at H, ← blockOf_hi]
      congr 4
      exact Fin.ext (by simp only [hi]; omega)
  pointwise [codes]
  rw [H, hinv, min_comm, max_comm]
  rfl

theorem padded_at (w : Fin 304) (p : Fin 256) : padded m (ix2 ⟨w.val, by omega⟩ p) = codes m (ix2 w p) := by
  pointwise [padded]

theorem half0_at (w : Fin 320) (l : Fin 128) : half0 m (ix2 w l) = padded m (ix2 w (lo l)) := by pointwise [half0, lo]
theorem half1_at (w : Fin 320) (l : Fin 128) : half1 m (ix2 w l) = padded m (ix2 w (hi l)) := by pointwise [half1, hi]

/-- The lane that a lane of either half takes its code from. -/
theorem from_lo_at (w : Fin 320) (l : Fin 128) : (from1 0#32 (ix2 w l)).toNat % 128 = 8 * (l.val % 16) + l.val / 32 := by
  pointwise [from1, from0, lane]
  revert l
  decide +kernel
theorem from_hi_at (w : Fin 320) (l : Fin 128) : (from1 4#32 (ix2 w l)).toNat % 128 = 8 * (l.val % 16) + 4 + l.val / 32 := by
  pointwise [from1, from0, lane]
  revert l
  decide +kernel

theorem second_at (w : Fin 320) (l : Fin 128) : second (ix2 w l) = if l.val / 16 % 2 = 1 then 1#1 else 0#1 := by
  pointwise [second, lane]
  revert l
  decide +kernel

/-- The column that channel `l`, or `128 + l`, is in: its half and its lane there. -/
theorem column_lo : ∀ l : Fin 128, (column (lo l)).val = (if l.val / 16 % 2 = 1 then 128 else 0) + (8 * (l.val % 16) + l.val / 32) := by decide +kernel
theorem column_hi : ∀ l : Fin 128, (column (hi l)).val = (if l.val / 16 % 2 = 1 then 128 else 0) + (8 * (l.val % 16) + 4 + l.val / 32) := by decide +kernel

theorem natural_at (h : BitVec 32) (w : Fin 320) (l : Fin 128) (p : Fin 256)
    (hp : p.val = (if l.val / 16 % 2 = 1 then 128 else 0) + (from1 h (ix2 w l)).toNat % 128) :
    natural m h (ix2 w l) = padded m (ix2 w p) := by
  have hlt : (from1 h (ix2 w l)).toNat % 128 < 128 := Nat.mod_lt _ (by norm_num)
  pointwise [natural]
  rw [second_at, half0_at, half1_at]
  by_cases hl : l.val / 16 % 2 = 1
  · rw [if_pos hl] at hp ⊢
    exact congrArg (fun q => padded m (ix2 w q)) (Fin.ext (by simp only [hi]; omega))
  · rw [if_neg hl] at hp ⊢
    exact congrArg (fun q => padded m (ix2 w q)) (Fin.ext (by simp only [lo]; omega))

include H in
theorem qRow_at (w : Fin 304) (d : Fin 256) : qRow m (ix4 0 0 w d) = I.code b h w d := by
  have hc : ∀ d : Fin 256, padded m (ix2 ⟨w.val, by omega⟩ (column d)) = I.code b h w d := fun d => by
    rw [padded_at, codes_at H, orig_column]
  pointwise [qRow]
  by_cases hd : d.val < 128
  · rw [dif_pos hd, natural_at 0#32 _ ⟨d.val, hd⟩ (column d) (by rw [from_lo_at]; exact column_lo ⟨d.val, hd⟩), hc]
  · have hd' : d.val - 128 < 128 := by omega
    have e : hi ⟨d.val - 128, hd'⟩ = d := Fin.ext (by simp only [hi]; omega)
    rw [dif_neg hd, natural_at 4#32 _ ⟨d.val - 128, hd'⟩ (column d)
      (by rw [from_hi_at, ← column_hi ⟨d.val - 128, hd'⟩, e]), hc]

include H in
theorem xRow0_at (w : Fin 304) (l : Fin 128) : xRow0 m (ix4 0 0 w l) = I.deq b h w (orig (lo l)) := by
  pointwise [xRow0]
  rw [codes_at H, scales_at H, ← blockOf_lo]
  rfl

include H in
theorem xRow1_at (w : Fin 304) (l : Fin 128) : xRow1 m (ix4 0 0 w l) = I.deq b h w (orig (hi l)) := by
  pointwise [xRow1]
  rw [codes_at H, scales_at H, ← blockOf_hi]
  rfl

include H in
theorem scRow_at (g : Fin 8) (w : Fin 304) : scRow m (ix4 0 0 g w) = I.scale b h w g := by
  pointwise [scRow]
  rw [scales_at H]
  exact congrArg (I.scale b h w) (Fin.ext (by simp only [laneBlock]; omega))

section Conv

variable (x0 x1 : Vec Ideal S1x1x304x128 .f32) (wo : Vec Ideal S1x256x256 .fp8e4m3)

theorem tapAdd_at (acc : FVec Ideal S304x256 .f32) (w : Fin 304) (d : Fin 256) (X : Fin 256 → EReal) (Y : Fin 256 → EReal)
    (h0 : ∀ l, x0 (ix4 0 0 w l) = X (orig (lo l))) (h1 : ∀ l, x1 (ix4 0 0 w l) = X (orig (hi l)))
    (hw : ∀ p, wo (ix3 0 p d) = Y (orig p)) :
    tapAdd acc x0 x1 wo (ix2 w d) = acc (ix2 w d) + ∑ k : Fin 256, X k * Y k := by
  pointwise [tapAdd]
  rw [← sum_halves]
  congr 2
  · exact Finset.sum_congr rfl fun l _ => by rw [h0, hw]; rfl
  · exact Finset.sum_congr rfl fun l _ => by rw [h1, hw]; rfl

/-- The row of the convolution is the result's, when the windows are the padded map's and the weights and channels are in the kernel's order. -/
theorem pRow_at (A : Fin 3 → Fin 3 → Fin 2 → Vec Ideal S1x1x304x128 .f32) (T : Fin 3 → Fin 3 → Vec Ideal S1x256x256 .fp8e4m3)
    (so bo : Vec Ideal S1x256 .f32) (w : Fin 304) (d : Fin 256)
    (hA0 : ∀ dy dx l, A dy dx 0 (ix4 0 0 w l) = I.padded b (h.val + dy.val) (w.val + dx.val) (orig (lo l)))
    (hA1 : ∀ dy dx l, A dy dx 1 (ix4 0 0 w l) = I.padded b (h.val + dy.val) (w.val + dx.val) (orig (hi l)))
    (hT : ∀ dy dx p, T dy dx (ix3 0 p d) = I.wo dy dx (orig p) d) (hso : so (ix2 0 d) = I.so d) (hbo : bo (ix2 0 d) = I.bo d) :
    pRow (A 0 0 0) (A 0 0 1) (A 0 1 0) (A 0 1 1) (A 0 2 0) (A 0 2 1) (A 1 0 0) (A 1 0 1) (A 1 1 0) (A 1 1 1) (A 1 2 0) (A 1 2 1) (A 2 0 0) (A 2 0 1) (A 2 1 0) (A 2 1 1) (A 2 2 0) (A 2 2 1)
      (T 0 0) (T 0 1) (T 0 2) (T 1 0) (T 1 1) (T 1 2) (T 2 0) (T 2 1) (T 2 2) so bo (ix4 0 0 w d) = I.out b h w d := by
  pointwise [pRow]
  rw [tapAdd_at _ _ _ _ w d (fun k => I.padded b (h.val + (2 : Fin 3).val) (w.val + (2 : Fin 3).val) k) (fun k => I.wo 2 2 k d) (hA0 2 2) (hA1 2 2) (hT 2 2),
    tapAdd_at _ _ _ _ w d (fun k => I.padded b (h.val + (2 : Fin 3).val) (w.val + (1 : Fin 3).val) k) (fun k => I.wo 2 1 k d) (hA0 2 1) (hA1 2 1) (hT 2 1),
    tapAdd_at _ _ _ _ w d (fun k => I.padded b (h.val + (2 : Fin 3).val) (w.val + (0 : Fin 3).val) k) (fun k => I.wo 2 0 k d) (hA0 2 0) (hA1 2 0) (hT 2 0),
    tapAdd_at _ _ _ _ w d (fun k => I.padded b (h.val + (1 : Fin 3).val) (w.val + (2 : Fin 3).val) k) (fun k => I.wo 1 2 k d) (hA0 1 2) (hA1 1 2) (hT 1 2),
    tapAdd_at _ _ _ _ w d (fun k => I.padded b (h.val + (1 : Fin 3).val) (w.val + (1 : Fin 3).val) k) (fun k => I.wo 1 1 k d) (hA0 1 1) (hA1 1 1) (hT 1 1),
    tapAdd_at _ _ _ _ w d (fun k => I.padded b (h.val + (1 : Fin 3).val) (w.val + (0 : Fin 3).val) k) (fun k => I.wo 1 0 k d) (hA0 1 0) (hA1 1 0) (hT 1 0),
    tapAdd_at _ _ _ _ w d (fun k => I.padded b (h.val + (0 : Fin 3).val) (w.val + (2 : Fin 3).val) k) (fun k => I.wo 0 2 k d) (hA0 0 2) (hA1 0 2) (hT 0 2),
    tapAdd_at _ _ _ _ w d (fun k => I.padded b (h.val + (0 : Fin 3).val) (w.val + (1 : Fin 3).val) k) (fun k => I.wo 0 1 k d) (hA0 0 1) (hA1 0 1) (hT 0 1),
    tapAdd_at _ _ _ _ w d (fun k => I.padded b (h.val + (0 : Fin 3).val) (w.val + (0 : Fin 3).val) k) (fun k => I.wo 0 0 k d) (hA0 0 0) (hA1 0 0) (hT 0 0)]
  pointwise []
  rw [hso, hbo]
  rfl

end Conv

end Row

end Cert.Level2

end
-- ==== Proof.StepValue.lean ====
/- What one point of the grid leaves at each index, when its blocks are the arguments' and the other scratch map holds the block before. -/
module

public import proofs.«01_k».proof.Proof.Step
public import proofs.«01_k».proof.Proof.RowValue

@[expose] public section

noncomputable section

namespace Cert.Level2.Step

open Idealize.ShloMosaic Idealize.SL.Sem Cert.KernelIdeal Cert.KernelIdeal.Gen

section Lists

variable {F : FTy → Type} [FloatOps F] {s : Shape} {e : EltTy} (D : s.Idx → Elt F e)

theorem over_hit (r : Rect s) (w : r.shape.Idx → Elt F e) (L : List (View.Piece (Elt F) s e)) (y : s.Idx) (x : r.shape.Idx)
    (h : ∀ a, (y a).val = r.off a + r.stride a * (x a).val) : over D (⟨r, w⟩ :: L) y = w x := by
  have e : r.emb x = y := funext fun a => Fin.ext (h a).symm
  rw [← e]
  exact r.overlay_emb _ _ x

theorem over_miss (r : Rect s) (w : r.shape.Idx → Elt F e) (L : List (View.Piece (Elt F) s e)) (y : s.Idx) (a : Fin s.rank)
    (h : ∀ x < r.size a, (y a).val ≠ r.off a + r.stride a * x) : over D (⟨r, w⟩ :: L) y = over D L y := by
  refine r.overlay_of_not_mem _ _ fun hm => ?_
  obtain ⟨x, hx⟩ := r.exists_idx_of_mem hm
  exact h (x a).val (x a).isLt (by rw [← hx]; rfl)

theorem over_unit_miss {off size : Fin s.rank → ℕ} (inb : ∀ a, off a + size a ≤ s.size a) (w : (Rect.unit off size inb).shape.Idx → Elt F e)
    (L : List (View.Piece (Elt F) s e)) (y : s.Idx) (a : Fin s.rank) (h : (y a).val < off a ∨ off a + size a ≤ (y a).val) :
    over D (⟨Rect.unit off size inb, w⟩ :: L) y = over D L y :=
  over_miss D _ _ _ _ a fun x hx => by
    have h1 : x < size a := hx
    show (y a).val ≠ off a + 1 * x
    omega

theorem over_unit_hit {off size : Fin s.rank → ℕ} (inb : ∀ a, off a + size a ≤ s.size a) (w : (Rect.unit off size inb).shape.Idx → Elt F e)
    (L : List (View.Piece (Elt F) s e)) (y : s.Idx) (x : (Rect.unit off size inb).shape.Idx) (h : ∀ a, (y a).val = off a + (x a).val) :
    over D (⟨Rect.unit off size inb, w⟩ :: L) y = w x :=
  over_hit D _ _ _ _ _ fun a => by
    show (y a).val = off a + 1 * (x a).val
    rw [h a]; omega

/-- A load through a unit rectangle, at an index. -/
theorem ld_unit (X : s.Idx → Elt F e) {off size : Fin s.rank → ℕ} (inb : ∀ a, off a + size a ≤ s.size a) (y : s.Idx)
    (x : (Rect.unit off size inb).shape.Idx) (h : ∀ a, (y a).val = off a + (x a).val) : View.ld X (Rect.unit off size inb) x = X y :=
  congrArg X (funext fun a => Fin.ext (by
    show off a + 1 * (x a).val = (y a).val
    rw [h a]; omega))

end Lists

section Scratch

variable (D : S2x6x320x128.Idx → Elt Ideal .f32)

/-- A row of 304 columns, written from column 8. -/
theorem over_row (a r : ℕ) (inb : ∀ x, ![a, r, 8, 0] x + S1x1x304x128.size x ≤ S2x6x320x128.size x) (v : Vec Ideal S1x1x304x128 .f32)
    (L : List (View.Piece (Elt Ideal) S2x6x320x128 .f32)) (h : Fin 2) (y : Fin 6) (c : Fin 320) (l : Fin 128) :
    over D (⟨Rect.unit ![a, r, 8, 0] S1x1x304x128.size inb, v⟩ :: L) (ix4 h y c l)
      = if hc : (h.val = a ∧ y.val = r) ∧ 8 ≤ c.val ∧ c.val < 312 then v (ix4 0 0 ⟨c.val - 8, by omega⟩ l) else over D L (ix4 h y c l) := by
  by_cases hc : (h.val = a ∧ y.val = r) ∧ 8 ≤ c.val ∧ c.val < 312
  · rw [dif_pos hc]
    refine over_unit_hit D inb v L _ (ix4 0 0 ⟨c.val - 8, by omega⟩ l) fun x => ?_
    fin_cases x
    · exact hc.1.1
    · exact hc.1.2
    · show c.val = 8 + (c.val - 8); omega
    · show l.val = 0 + l.val; omega
  · rw [dif_neg hc]
    by_cases h0 : h.val = a
    · by_cases h1 : y.val = r
      · refine over_unit_miss D inb v L _ 2 ?_
        show c.val < 8 ∨ 8 + 304 ≤ c.val
        omega
      · refine over_unit_miss D inb v L _ 1 ?_
        show y.val < r ∨ r + 1 ≤ y.val
        omega
    · refine over_unit_miss D inb v L _ 0 ?_
      show h.val < a ∨ a + 1 ≤ h.val
      omega

/-- A row of all the columns. -/
theorem over_full (a r : ℕ) (inb : ∀ x, ![a, r, 0, 0] x + S1x1x320x128.size x ≤ S2x6x320x128.size x) (v : Vec Ideal S1x1x320x128 .f32)
    (L : List (View.Piece (Elt Ideal) S2x6x320x128 .f32)) (h : Fin 2) (y : Fin 6) (c : Fin 320) (l : Fin 128) :
    over D (⟨Rect.unit ![a, r, 0, 0] S1x1x320x128.size inb, v⟩ :: L) (ix4 h y c l)
      = if h.val = a ∧ y.val = r then v (ix4 0 0 c l) else over D L (ix4 h y c l) := by
  by_cases hc : h.val = a ∧ y.val = r
  · rw [if_pos hc]
    refine over_unit_hit D inb v L _ (ix4 0 0 c l) fun x => ?_
    fin_cases x
    · exact hc.1
    · exact hc.2
    · show c.val = 0 + c.val; omega
    · show l.val = 0 + l.val; omega
  · rw [if_neg hc]
    by_cases h0 : h.val = a
    · refine over_unit_miss D inb v L _ 1 ?_
      show y.val < r ∨ r + 1 ≤ y.val
      omega
    · refine over_unit_miss D inb v L _ 0 ?_
      show h.val < a ∨ a + 1 ≤ h.val
      omega

theorem over_zeros (h : Fin 2) (y : Fin 6) (c : Fin 320) (l : Fin 128) : over D zeros (ix4 h y c l) = 0 := by
  unfold zeros
  refine (over_unit_hit D inb_S2x6x320x128_S2x6x320x128_0_0_0_0 (k0_pay1 (F := Ideal)) [] (ix4 h y c l) (ix4 h y c l) fun x => ?_).trans ?_
  · fin_cases x <;> exact (Nat.zero_add _).symm
  · pointwise [k0_pay1]

theorem edge_at (f : BitVec 1) (v : Vec Ideal S1x1x320x128 .f32) (c : Fin 320) (l : Fin 128) :
    edge f v (ix4 0 0 c l) = if f = 1#1 then 0 else v (ix4 0 0 c l) := by
  pointwise [edge, k0_pay103]
  by_cases hf : f = 1#1 <;> simp [Scalar.select, hf]

theorem scratchRow_at (X : S2x6x320x128.Idx → Elt Ideal .f32) (h : Fin 2) (y : Fin 6)
    (inb : ∀ a, ![h.val, y.val, 0, 0] a + S1x1x320x128.size a ≤ S2x6x320x128.size a) (c : Fin 320) (l : Fin 128) :
    scratchRow X ![h.val, y.val, 0, 0] inb (ix4 0 0 c l) = X (ix4 h y c l) :=
  ld_unit X inb (ix4 h y c l) (ix4 0 0 c l) fun a => by
    fin_cases a
    · exact (Nat.add_zero h.val).symm
    · exact (Nat.add_zero y.val).symm
    · exact (Nat.zero_add _).symm
    · exact (Nat.zero_add _).symm

theorem win_at (X : S2x6x320x128.Idx → Elt Ideal .f32) (off : Fin 4 → ℕ) (inb : ∀ a, off a + S1x1x304x128.size a ≤ S2x6x320x128.size a)
    (h : Fin 2) (y : Fin 6) (o : Fin 3) (ho : off = ![h.val, y.val, o.val + 7, 0]) (w : Fin 304) (l : Fin 128) :
    win X off inb (ix4 0 0 w l) = X (ix4 h y ⟨7 + (w.val + o.val), by omega⟩ l) := by
  subst ho
  refine ld_unit X inb _ (ix4 0 0 w l) fun a => ?_
  fin_cases a
  · exact (Nat.add_zero h.val).symm
  · exact (Nat.add_zero y.val).symm
  · show 7 + (w.val + o.val) = o.val + 7 + w.val; omega
  · exact (Nat.zero_add _).symm

end Scratch

/-- The column of a lane of a half. -/
def half (h : Fin 2) (l : Fin 128) : Fin 256 := if h = 0 then lo l else hi l

section Rows

variable (I : Inputs) (b : Fin 12) (j : Fin 44)

/-- The four merged rows of a block are the map's. -/
structure RowsOf (m0 m1 m2 m3 : FVec Ideal S304x256 .f32) : Prop where
  r0 : Row.IsRow I b ⟨4 * j.val, by omega⟩ m0
  r1 : Row.IsRow I b ⟨4 * j.val + 1, by omega⟩ m1
  r2 : Row.IsRow I b ⟨4 * j.val + 2, by omega⟩ m2
  r3 : Row.IsRow I b ⟨4 * j.val + 3, by omega⟩ m3

/-- A scratch map's rows 0 to 4 are the padded dequantised map's from row `4 j` on. -/
def Filled (X : S2x6x320x128.Idx → Elt Ideal .f32) : Prop :=
  ∀ (h : Fin 2) (y : Fin 6) (c : Fin 320) (l : Fin 128), y.val ≤ 4 → 7 ≤ c.val → c.val < 313 →
    X (ix4 h y c l) = I.padded b (4 * j.val + y.val) (c.val - 7) (orig (half h l))

/-- A scratch map's rows 1 to 4 have zeros beyond both ends. -/
def Clean (X : S2x6x320x128.Idx → Elt Ideal .f32) : Prop :=
  ∀ (h : Fin 2) (y : Fin 6) (c : Fin 320) (l : Fin 128), 1 ≤ y.val → y.val ≤ 4 → c.val < 8 ∨ 312 ≤ c.val → X (ix4 h y c l) = 0

variable {I b j} (D : S2x6x320x128.Idx → Elt Ideal .f32) {m0 m1 m2 m3 : FVec Ideal S304x256 .f32} (R : RowsOf I b j m0 m1 m2 m3)
  (L : List (View.Piece (Elt Ideal) S2x6x320x128 .f32))

include R in
theorem rows_at (h : Fin 2) (y : Fin 6) (c : Fin 320) (l : Fin 128) (h1 : 1 ≤ y.val) (h4 : y.val ≤ 4) (h8 : 8 ≤ c.val) (hc : c.val < 312) :
    over D (rows m0 m1 m2 m3 L) (ix4 h y c l) = I.deq b ⟨4 * j.val + y.val - 1, by omega⟩ ⟨c.val - 8, by omega⟩ (orig (half h l)) := by
  unfold rows
  by_cases e0 : h.val = 1 ∧ y.val = 4
  · rw [over_row, dif_pos (by omega)]
    obtain ⟨rfl, rfl⟩ : h = 1 ∧ y = 4 := ⟨Fin.ext e0.1, Fin.ext e0.2⟩
    exact Row.xRow1_at R.r3 _ l
  rw [over_row, dif_neg (by omega)]
  by_cases e1 : h.val = 0 ∧ y.val = 4
  · rw [over_row, dif_pos (by omega)]
    obtain ⟨rfl, rfl⟩ : h = 0 ∧ y = 4 := ⟨Fin.ext e1.1, Fin.ext e1.2⟩
    exact Row.xRow0_at R.r3 _ l
  rw [over_row, dif_neg (by omega)]
  by_cases e2 : h.val = 1 ∧ y.val = 3
  · rw [over_row, dif_pos (by omega)]
    obtain ⟨rfl, rfl⟩ : h = 1 ∧ y = 3 := ⟨Fin.ext e2.1, Fin.ext e2.2⟩
    exact Row.xRow1_at R.r2 _ l
  rw [over_row, dif_neg (by omega)]
  by_cases e3 : h.val = 0 ∧ y.val = 3
  · rw [over_row, dif_pos (by omega)]
    obtain ⟨rfl, rfl⟩ : h = 0 ∧ y = 3 := ⟨Fin.ext e3.1, Fin.ext e3.2⟩
    exact Row.xRow0_at R.r2 _ l
  rw [over_row, dif_neg (by omega)]
  by_cases e4 : h.val = 1 ∧ y.val = 2
  · rw [over_row, dif_pos (by omega)]
    obtain ⟨rfl, rfl⟩ : h = 1 ∧ y = 2 := ⟨Fin.ext e4.1, Fin.ext e4.2⟩
    exact Row.xRow1_at R.r1 _ l
  rw [over_row, dif_neg (by omega)]
  by_cases e5 : h.val = 0 ∧ y.val = 2
  · rw [over_row, dif_pos (by omega)]
    obtain ⟨rfl, rfl⟩ : h = 0 ∧ y = 2 := ⟨Fin.ext e5.1, Fin.ext e5.2⟩
    exact Row.xRow0_at R.r1 _ l
  rw [over_row, dif_neg (by omega)]
  by_cases e6 : h.val = 1 ∧ y.val = 1
  · rw [over_row, dif_pos (by omega)]
    obtain ⟨rfl, rfl⟩ : h = 1 ∧ y = 1 := ⟨Fin.ext e6.1, Fin.ext e6.2⟩
    exact Row.xRow1_at R.r0 _ l
  rw [over_row, dif_neg (by omega)]
  rw [over_row, dif_pos (by omega)]
  obtain ⟨rfl, rfl⟩ : h = 0 ∧ y = 1 := ⟨by omega, by omega⟩
  exact Row.xRow0_at R.r0 _ l

theorem rows_off (h : Fin 2) (y : Fin 6) (c : Fin 320) (l : Fin 128) (hc : ¬((1 ≤ y.val ∧ y.val ≤ 4) ∧ 8 ≤ c.val ∧ c.val < 312)) :
    over D (rows m0 m1 m2 m3 L) (ix4 h y c l) = over D L (ix4 h y c l) := by
  unfold rows
  iterate 8 rw [over_row, dif_neg (by omega)]

theorem dst_row (f : BitVec 1) (S0 S1 : S2x6x320x128.Idx → Elt Ideal .f32) (h : Fin 2) (y : Fin 6) (c : Fin 320) (l : Fin 128) (hy : 1 ≤ y.val) :
    over D (dstList f S0 S1 L) (ix4 h y c l) = over D L (ix4 h y c l) := by
  unfold dstList
  rw [over_full, if_neg (by omega), over_full, if_neg (by omega)]

theorem dst_first (f : BitVec 1) (S0 S1 : S2x6x320x128.Idx → Elt Ideal .f32) (h : Fin 2) (c : Fin 320) (l : Fin 128) :
    over D (dstList f S0 S1 L) (ix4 h 0 c l) = if f = 1#1 then 0 else (if h = 0 then S0 else S1) (ix4 h 4 c l) := by
  unfold dstList
  obtain rfl | rfl : h = 0 ∨ h = 1 := by omega
  · rw [over_full, if_neg (by decide), over_full, if_pos (by decide), edge_at]
    exact if_congr Iff.rfl rfl (scratchRow_at S0 0 4 _ c l)
  · rw [over_full, if_pos (by decide), edge_at]
    exact if_congr Iff.rfl rfl (scratchRow_at S1 1 4 _ c l)

theorem src_row (f : BitVec 1) (D0 D1 : S2x6x320x128.Idx → Elt Ideal .f32) (h : Fin 2) (y : Fin 6) (c : Fin 320) (l : Fin 128) (hy : y.val ≤ 4) :
    over D (srcList f D0 D1 L) (ix4 h y c l) = over D L (ix4 h y c l) := by
  unfold srcList
  rw [over_full, if_neg (by omega), over_full, if_neg (by omega)]

theorem src_last (f : BitVec 1) (D0 D1 : S2x6x320x128.Idx → Elt Ideal .f32) (h : Fin 2) (c : Fin 320) (l : Fin 128) :
    over D (srcList f D0 D1 L) (ix4 h 5 c l) = if f = 1#1 then 0 else (if h = 0 then D0 else D1) (ix4 h 1 c l) := by
  unfold srcList
  obtain rfl | rfl : h = 0 ∨ h = 1 := by omega
  · rw [over_full, if_neg (by decide), over_full, if_pos (by decide), edge_at]
    exact if_congr Iff.rfl rfl (scratchRow_at D0 0 1 _ c l)
  · rw [over_full, if_pos (by decide), edge_at]
    exact if_congr Iff.rfl rfl (scratchRow_at D1 1 1 _ c l)

include R in
/-- The filled map's own rows. -/
theorem filled_row (hp : Clean (over D L)) (h : Fin 2) (y : Fin 6) (c : Fin 320) (l : Fin 128) (h1 : 1 ≤ y.val) (h4 : y.val ≤ 4)
    (h7 : 7 ≤ c.val) (hc : c.val < 313) :
    over D (rows m0 m1 m2 m3 L) (ix4 h y c l) = I.padded b (4 * j.val + y.val) (c.val - 7) (orig (half h l)) := by
  unfold Inputs.padded
  by_cases hi : 8 ≤ c.val ∧ c.val < 312
  · rw [rows_at D R L h y c l h1 h4 hi.1 hi.2, dif_pos (by omega)]
    exact congrArg (fun x => I.deq b _ x (orig (half h l))) (Fin.ext (by show c.val - 8 = c.val - 7 - 1; omega))
  · rw [rows_off D L h y c l (by omega), dif_neg (by omega)]
    exact hp h y c l h1 h4 (by omega)

include R in
theorem filled (f : BitVec 1) (S0 S1 : S2x6x320x128.Idx → Elt Ideal .f32) (hp : Clean (over D L))
    (hf : ∀ (h : Fin 2) (c : Fin 320) (l : Fin 128), 7 ≤ c.val → c.val < 313 →
      (if f = 1#1 then 0 else (if h = 0 then S0 else S1) (ix4 h 4 c l)) = I.padded b (4 * j.val) (c.val - 7) (orig (half h l))) :
    Filled I b j (over D (dstList f S0 S1 (rows m0 m1 m2 m3 L))) := by
  intro h y c l h4 h7 hc
  by_cases h0 : y = 0
  · subst h0
    rw [dst_first]
    exact hf h c l h7 hc
  · have h1 : 1 ≤ y.val := by omega
    rw [dst_row D _ f S0 S1 h y c l h1]
    exact filled_row D R L hp h y c l h1 h4 h7 hc

theorem clean_dst (f : BitVec 1) (S0 S1 : S2x6x320x128.Idx → Elt Ideal .f32) (hp : Clean (over D L)) :
    Clean (over D (dstList f S0 S1 (rows m0 m1 m2 m3 L))) := by
  intro h y c l h1 h4 hc
  rw [dst_row D _ f S0 S1 h y c l h1, rows_off D L h y c l (by omega)]
  exact hp h y c l h1 h4 hc

theorem clean_src (f : BitVec 1) (D0 D1 : S2x6x320x128.Idx → Elt Ideal .f32) (hp : Clean (over D L)) : Clean (over D (srcList f D0 D1 L)) := by
  intro h y c l h1 h4 hc
  rw [src_row D L f D0 D1 h y c l h4]
  exact hp h y c l h1 h4 hc

theorem clean_zeros : Clean (over D zeros) := fun h y c l _ _ _ => over_zeros D h y c l

end Rows

section Blocks

variable {I : Inputs} {b : Fin 12} {j : Fin 44} {m0 m1 m2 m3 : FVec Ideal S304x256 .f32} (R : RowsOf I b j m0 m1 m2 m3)

include R in
theorem q_at (r : Fin 4) (w : Fin 304) (d : Fin 256) :
    View.canon (qList m0 m1 m2 m3) (ix4 0 r w d) = I.code b ⟨4 * j.val + r.val, by omega⟩ w d := by
  rw [canon_over]
  generalize (fun _ => Classical.arbitrary _ : S1x4x304x256.Idx → Elt Ideal .fp8e4m3) = D
  have hit : ∀ (k : ℕ) (inb : ∀ x, ![0, k, 0, 0] x + S1x1x304x256.size x ≤ S1x4x304x256.size x) (v : Vec Ideal S1x1x304x256 .fp8e4m3)
      (L : List (View.Piece (Elt Ideal) S1x4x304x256 .fp8e4m3)),
      over D (⟨Rect.unit ![0, k, 0, 0] S1x1x304x256.size inb, v⟩ :: L) (ix4 0 r w d) = if r.val = k then v (ix4 0 0 w d) else over D L (ix4 0 r w d) := by
    intro k inb v L
    by_cases hk : r.val = k
    · rw [if_pos hk]
      refine over_unit_hit D inb v L _ (ix4 0 0 w d) fun x => ?_
      fin_cases x
      · rfl
      · exact hk
      · exact (Nat.zero_add _).symm
      · exact (Nat.zero_add _).symm
    · rw [if_neg hk]
      refine over_unit_miss D inb v L _ 1 ?_
      show r.val < k ∨ k + 1 ≤ r.val
      omega
  unfold qList
  by_cases e3 : r.val = 3
  · rw [hit, if_pos e3]
    obtain rfl : r = 3 := Fin.ext e3
    exact Row.qRow_at R.r3 w d
  rw [hit, if_neg e3]
  by_cases e2 : r.val = 2
  · rw [hit, if_pos e2]
    obtain rfl : r = 2 := Fin.ext e2
    exact Row.qRow_at R.r2 w d
  rw [hit, if_neg e2]
  by_cases e1 : r.val = 1
  · rw [hit, if_pos e1]
    obtain rfl : r = 1 := Fin.ext e1
    exact Row.qRow_at R.r1 w d
  rw [hit, if_neg e1]
  rw [hit, if_pos (by omega)]
  obtain rfl : r = 0 := by omega
  exact Row.qRow_at R.r0 w d

include R in
theorem sc_at (r : Fin 4) (g : Fin 8) (w : Fin 304) :
    View.canon (scList m0 m1 m2 m3) (ix4 0 r g w) = I.scale b ⟨4 * j.val + r.val, by omega⟩ w g := by
  rw [canon_over]
  generalize (fun _ => Classical.arbitrary _ : S1x4x8x304.Idx → Elt Ideal .f32) = D
  have hit : ∀ (k : ℕ) (inb : ∀ x, ![0, k, 0, 0] x + S1x1x8x304.size x ≤ S1x4x8x304.size x) (v : Vec Ideal S1x1x8x304 .f32)
      (L : List (View.Piece (Elt Ideal) S1x4x8x304 .f32)),
      over D (⟨Rect.unit ![0, k, 0, 0] S1x1x8x304.size inb, v⟩ :: L) (ix4 0 r g w) = if r.val = k then v (ix4 0 0 g w) else over D L (ix4 0 r g w) := by
    intro k inb v L
    by_cases hk : r.val = k
    · rw [if_pos hk]
      refine over_unit_hit D inb v L _ (ix4 0 0 g w) fun x => ?_
      fin_cases x
      · rfl
      · exact hk
      · exact (Nat.zero_add _).symm
      · exact (Nat.zero_add _).symm
    · rw [if_neg hk]
      refine over_unit_miss D inb v L _ 1 ?_
      show r.val < k ∨ k + 1 ≤ r.val
      omega
  unfold scList
  by_cases e3 : r.val = 3
  · rw [hit, if_pos e3]
    obtain rfl : r = 3 := Fin.ext e3
    exact Row.scRow_at R.r3 g w
  rw [hit, if_neg e3]
  by_cases e2 : r.val = 2
  · rw [hit, if_pos e2]
    obtain rfl : r = 2 := Fin.ext e2
    exact Row.scRow_at R.r2 g w
  rw [hit, if_neg e2]
  by_cases e1 : r.val = 1
  · rw [hit, if_pos e1]
    obtain rfl : r = 1 := Fin.ext e1
    exact Row.scRow_at R.r1 g w
  rw [hit, if_neg e1]
  rw [hit, if_pos (by omega)]
  obtain rfl : r = 0 := by omega
  exact Row.scRow_at R.r0 g w

end Blocks

end Cert.Level2.Step

end
-- ==== Proof.StepBlock.lean ====
/- The block that one point of the grid computes, of the blocks it loads. -/
module

public import proofs.«01_k».proof.Proof.StepValue

@[expose] public section

noncomputable section

namespace Cert.Level2.Step

open Idealize.ShloMosaic Idealize.SL.Sem Cert.KernelIdeal Cert.KernelIdeal.Gen

section Upsampled

variable (D : S2x304x128.Idx → Elt Ideal .f32)

/-- One strided write: a half's even or odd columns. -/
theorem over_up (h o : ℕ) (ho : o < 2) (inb : ∀ x, S1x152x128.size x = 0 ∨ ![h, o, 0] x + ![1, 2, 1] x * (S1x152x128.size x - 1) < S2x304x128.size x) (sp : ∀ x, 0 < ![1, 2, 1] x)
    (v : Vec Ideal S1x1x152x128 .f32) (L : List (View.Piece (Elt Ideal) S2x304x128 .f32)) (h' : Fin 2) (w : Fin 304) (l : Fin 128) :
    over D (⟨{ off := ![h, o, 0], size := S1x152x128.size, stride := ![1, 2, 1], inb := inb, stride_pos := sp }, k0_pay9 v⟩ :: L) (ix3 h' w l)
      = if h'.val = h ∧ w.val % 2 = o then v (ix4 0 0 ⟨w.val / 2, by omega⟩ l) else over D L (ix3 h' w l) := by
  by_cases hc : h'.val = h ∧ w.val % 2 = o
  · rw [if_pos hc]
    refine (over_hit D _ _ L _ (ix3 0 ⟨w.val / 2, by omega⟩ l) fun x => ?_).trans ?_
    · fin_cases x
      · show h'.val = h + 1 * 0; omega
      · show w.val = o + 2 * (w.val / 2); omega
      · show l.val = 0 + 1 * l.val; omega
    · pointwise [k0_pay9, k0_pay8]
  · rw [if_neg hc]
    by_cases h0 : h'.val = h
    · refine over_miss D _ _ L _ 1 fun x hx => ?_
      show w.val ≠ o + 2 * x
      omega
    · refine over_miss D _ _ L _ 0 fun x hx => ?_
      have hx' : x < 1 := hx
      show h'.val ≠ h + 1 * x
      omega

theorem over_upList (a b : Vec Ideal S1x1x152x128 .f32) (L : List (View.Piece (Elt Ideal) S2x304x128 .f32)) (h : Fin 2) (w : Fin 304) (l : Fin 128) :
    over D (upList a b L) (ix3 h w l) = (if h = 0 then a else b) (ix4 0 0 ⟨w.val / 2, by omega⟩ l) := by
  unfold upList
  have e : w.val % 2 = 0 ∨ w.val % 2 = 1 := by omega
  obtain rfl | rfl : h = 0 ∨ h = 1 := by omega
  · rw [over_up D 1 1 (by omega), if_neg (by simp), over_up D 1 0 (by omega), if_neg (by simp), over_up D 0 1 (by omega)]
    rcases e with e | e
    · rw [if_neg (by omega), over_up D 0 0 (by omega), if_pos (by simpa using e), if_pos rfl]
    · rw [if_pos (by simpa using e), if_pos rfl]
  · rw [over_up D 1 1 (by omega)]
    rcases e with e | e
    · rw [if_neg (by omega), over_up D 1 0 (by omega), if_pos (by simpa using e), if_neg (by decide)]
    · rw [if_pos (by simpa using e), if_neg (by decide)]

theorem up0_at (a b : Vec Ideal S1x1x152x128 .f32) (L : List (View.Piece (Elt Ideal) S2x304x128 .f32)) (w : Fin 304) (l : Fin 128) :
    up0 (upList a b L) (ix3 0 w l) = a (ix4 0 0 ⟨w.val / 2, by omega⟩ l) := by
  unfold up0
  refine (ld_unit _ inb_S2x304x128_S1x304x128_0_0_0 (ix3 0 w l) (ix3 0 w l) fun x => ?_).trans ?_
  · fin_cases x <;> exact (Nat.zero_add _).symm
  · rw [canon_over, over_upList, if_pos rfl]

theorem up1_at (a b : Vec Ideal S1x1x152x128 .f32) (L : List (View.Piece (Elt Ideal) S2x304x128 .f32)) (w : Fin 304) (l : Fin 128) :
    up1 (upList a b L) (ix3 0 w l) = b (ix4 0 0 ⟨w.val / 2, by omega⟩ l) := by
  unfold up1
  refine (ld_unit _ inb_S2x304x128_S1x304x128_1_0_0 (ix3 1 w l) (ix3 0 w l) fun x => ?_).trans ?_
  · fin_cases x
    exacts [rfl, (Nat.zero_add _).symm, (Nat.zero_add _).symm]
  · rw [canon_over, over_upList, if_neg (by decide)]

end Upsampled

/-- A merged row, at an index. -/
theorem merged_at (cs : Elt Ideal .f32) (sl bl : Vec Ideal S1x256 .f32) (c : Vec Ideal S1x1x96x304 .fp8e4m3) (wl : Vec Ideal S96x256 .fp8e4m3)
    (u0 u1 : Vec Ideal S1x304x128 .f32) (w : Fin 304) (p : Fin 256) :
    Row.merged cs sl bl c wl u0 u1 (ix2 w p) = (∑ k : Fin 96, c (ix4 0 0 k w) * wl (ix2 k p)) * (cs * sl (ix2 0 p)) + bl (ix2 0 p)
      + if h : p.val < 128 then u0 (ix3 0 w ⟨p.val, h⟩) else u1 (ix3 0 w ⟨p.val - 128, by omega⟩) := by
  unfold Row.merged
  pointwise [k0_pay14, k0_pay7, k0_pay3, k0_pay4]

section Loaded

variable {I : Inputs} {b : Fin 12} {j : Fin 44}

/-- The blocks that a point loads for its rows are the arguments' at image `b` and rows `4 j` to `4 j + 3`; the columns are in the order that
the kernel keeps them in. -/
structure RowArgs (I : Inputs) (b : Fin 12) (j : Fin 44) (x0 : Vec Ideal S1 .f32) (x1 : Vec Ideal S1x4x96x304 .fp8e4m3)
    (x2 : Vec Ideal S1x2x152x256 .f32) (x3 : Vec Ideal S96x256 .fp8e4m3) (x4 x5 : Vec Ideal S1x256 .f32) : Prop where
  cs : x0 (ix1 0) = I.cs
  c : ∀ (r : Fin 4) (k : Fin 96) (w : Fin 304), x1 (ix4 0 r k w) = I.c b ⟨4 * j.val + r.val, by omega⟩ w k
  m3 : ∀ (r : Fin 2) (w : Fin 152) (p : Fin 256), x2 (ix4 0 r w p) = I.m3 b ⟨2 * j.val + r.val, by omega⟩ w (orig p)
  wl : ∀ (k : Fin 96) (p : Fin 256), x3 (ix2 k p) = I.wl k (orig p)
  sl : ∀ p : Fin 256, x4 (ix2 0 p) = I.sl (orig p)
  bl : ∀ p : Fin 256, x5 (ix2 0 p) = I.bl (orig p)

/-- The blocks that a point loads for the convolution are the arguments'. -/
structure OutArgs (I : Inputs) (x6 : Vec Ideal S9x256x256 .fp8e4m3) (x7 x8 : Vec Ideal S1x256 .f32) : Prop where
  wo : ∀ (dy dx : Fin 3) (p d : Fin 256), x6 (ix3 ⟨3 * dy.val + dx.val, by omega⟩ p d) = I.wo dy dx (orig p) d
  so : ∀ d : Fin 256, x7 (ix2 0 d) = I.so d
  bo : ∀ d : Fin 256, x8 (ix2 0 d) = I.bo d

variable {x0 : Vec Ideal S1 .f32} {x1 : Vec Ideal S1x4x96x304 .fp8e4m3} {x2 : Vec Ideal S1x2x152x256 .f32} {x3 : Vec Ideal S96x256 .fp8e4m3}
  {x4 x5 : Vec Ideal S1x256 .f32} {x6 : Vec Ideal S9x256x256 .fp8e4m3} {x7 x8 : Vec Ideal S1x256 .f32}

theorem mrow_isRow (A : RowArgs I b j x0 x1 x2 x3 x4 x5) (r : Fin 4) (k : ℕ) (hk : r.val = k)
    (inb : ∀ x, ![0, k, 0, 0] x + S1x1x96x304.size x ≤ S1x4x96x304.size x) (u v : Vec Ideal S1x1x152x128 .f32)
    (L : List (View.Piece (Elt Ideal) S2x304x128 .f32)) (r2 : Fin 2) (h2 : r2.val = r.val / 2)
    (hu : ∀ (w : Fin 152) (l : Fin 128), u (ix4 0 0 w l) = x2 (ix4 0 r2 w (lo l)))
    (hv : ∀ (w : Fin 152) (l : Fin 128), v (ix4 0 0 w l) = x2 (ix4 0 r2 w (hi l))) :
    Row.IsRow I b ⟨4 * j.val + r.val, by omega⟩ (mrow x0 x3 x4 x5 (View.ld x1 (Rect.unit ![0, k, 0, 0] S1x1x96x304.size inb)) (upList u v L)) := by
  intro w p
  unfold mrow
  rw [merged_at]
  have ec : ∀ q : Fin 96, View.ld x1 (Rect.unit ![0, k, 0, 0] S1x1x96x304.size inb) (ix4 0 0 q w) = I.c b ⟨4 * j.val + r.val, by omega⟩ w q := fun q =>
    (ld_unit x1 inb (ix4 0 r q w) (ix4 0 0 q w) fun x => by
      fin_cases x
      exacts [rfl, hk, (Nat.zero_add _).symm, (Nat.zero_add _).symm]).trans (A.c r q w)
  have ewl : ∀ q : Fin 96, View.ld x3 (Rect.unit ![0, 0] S96x256.size inb_S96x256_S96x256_0_0) (ix2 q p) = I.wl q (orig p) := fun q =>
    (ld_unit x3 inb_S96x256_S96x256_0_0 (ix2 q p) (ix2 q p) fun x => by fin_cases x <;> exact (Nat.zero_add _).symm).trans (A.wl q p)
  have e0 : View.ld x0 (Rect.unit ![0] ![1] inb_S1_S1_0) (Shape.Idx.first (by decide)) = I.cs :=
    (ld_unit x0 inb_S1_S1_0 (ix1 0) _ fun x => by fin_cases x; rfl).trans A.cs
  have e4 : View.ld x4 (Rect.unit ![0, 0] ![1, 256] inb_S1x256_S1x256_0_0) (ix2 0 p) = I.sl (orig p) :=
    (ld_unit x4 inb_S1x256_S1x256_0_0 (ix2 0 p) (ix2 0 p) fun x => by fin_cases x <;> exact (Nat.zero_add _).symm).trans (A.sl p)
  have e5 : View.ld x5 (Rect.unit ![0, 0] ![1, 256] inb_S1x256_S1x256_0_0) (ix2 0 p) = I.bl (orig p) :=
    (ld_unit x5 inb_S1x256_S1x256_0_0 (ix2 0 p) (ix2 0 p) fun x => by fin_cases x <;> exact (Nat.zero_add _).symm).trans (A.bl p)
  have em : (if h : p.val < 128 then up0 (upList u v L) (ix3 0 w ⟨p.val, h⟩) else up1 (upList u v L) (ix3 0 w ⟨p.val - 128, by omega⟩))
      = I.m3 b ⟨(4 * j.val + r.val) / 2, by omega⟩ ⟨w.val / 2, by omega⟩ (orig p) := by
    have eh : (⟨2 * j.val + r2.val, by omega⟩ : Fin 88) = ⟨(4 * j.val + r.val) / 2, by omega⟩ := Fin.ext (by
      show 2 * j.val + r2.val = (4 * j.val + r.val) / 2
      omega)
    by_cases h : p.val < 128
    · rw [dif_pos h, up0_at, hu, A.m3, eh]
      exact congrArg (fun x => I.m3 b _ _ (orig x)) (Fin.ext rfl)
    · rw [dif_neg h, up1_at, hv, A.m3, eh]
      exact congrArg (fun x => I.m3 b _ _ (orig x)) (Fin.ext (by show 128 + (p.val - 128) = p.val; omega))
  rw [em]
  unfold Inputs.map
  refine congrArg₂ (· + ·) (congrArg₂ (· + ·) (congrArg₂ (· * ·) (Finset.sum_congr rfl fun q _ => ?_) ?_) e5) rfl
  · exact congrArg₂ (· * ·) (ec q) (ewl q)
  · exact congrArg₂ (· * ·) e0 e4

/-- The point's merged rows are the map's. -/
theorem rowsOf (A : RowArgs I b j x0 x1 x2 x3 x4 x5) :
    RowsOf I b j (m0 x0 x1 x2 x3 x4 x5) (m1 x0 x1 x2 x3 x4 x5) (m2 x0 x1 x2 x3 x4 x5) (m3 x0 x1 x2 x3 x4 x5) := by
  have h0 : ∀ (w : Fin 152) (l : Fin 128), coarse0 x2 (ix4 0 0 w l) = x2 (ix4 0 0 w (lo l)) := fun w l =>
    ld_unit x2 inb_S1x2x152x256_S1x1x152x128_0_0_0_0 (ix4 0 0 w (lo l)) (ix4 0 0 w l) fun x => by
      fin_cases x
      exacts [rfl, rfl, (Nat.zero_add _).symm, (Nat.zero_add _).symm]
  have h1 : ∀ (w : Fin 152) (l : Fin 128), coarse1 x2 (ix4 0 0 w l) = x2 (ix4 0 0 w (hi l)) := fun w l =>
    ld_unit x2 inb_S1x2x152x256_S1x1x152x128_0_0_0_128 (ix4 0 0 w (hi l)) (ix4 0 0 w l) fun x => by
      fin_cases x
      exacts [rfl, rfl, (Nat.zero_add _).symm, rfl]
  have h2 : ∀ (w : Fin 152) (l : Fin 128), coarse2 x2 (ix4 0 0 w l) = x2 (ix4 0 1 w (lo l)) := fun w l =>
    ld_unit x2 inb_S1x2x152x256_S1x1x152x128_0_1_0_0 (ix4 0 1 w (lo l)) (ix4 0 0 w l) fun x => by
      fin_cases x
      exacts [rfl, rfl, (Nat.zero_add _).symm, (Nat.zero_add _).symm]
  have h3 : ∀ (w : Fin 152) (l : Fin 128), coarse3 x2 (ix4 0 0 w l) = x2 (ix4 0 1 w (hi l)) := fun w l =>
    ld_unit x2 inb_S1x2x152x256_S1x1x152x128_0_1_0_128 (ix4 0 1 w (hi l)) (ix4 0 0 w l) fun x => by
      fin_cases x
      exacts [rfl, rfl, (Nat.zero_add _).symm, rfl]
  exact
    { r0 := mrow_isRow A 0 0 rfl inb_S1x4x96x304_S1x1x96x304_0_0_0_0 _ _ _ 0 rfl h0 h1
      r1 := mrow_isRow A 1 1 rfl inb_S1x4x96x304_S1x1x96x304_0_1_0_0 _ _ _ 0 rfl h0 h1
      r2 := mrow_isRow A 2 2 rfl inb_S1x4x96x304_S1x1x96x304_0_2_0_0 _ _ _ 1 rfl h2 h3
      r3 := mrow_isRow A 3 3 rfl inb_S1x4x96x304_S1x1x96x304_0_3_0_0 _ _ _ 1 rfl h2 h3 }

/-- The block of the convolution, when the windows are the padded map's. -/
theorem p_at (O : OutArgs I x6 x7 x8) (W : Fin 6 → Fin 2 → Fin 3 → Vec Ideal S1x1x304x128 .f32)
    (hW : ∀ (y : Fin 6) (h : Fin 2) (dx : Fin 3) (w : Fin 304) (l : Fin 128),
      W y h dx (ix4 0 0 w l) = I.padded b (4 * j.val + y.val) (w.val + dx.val) (orig (half h l)))
    (r : Fin 4) (w : Fin 304) (d : Fin 256) :
    View.canon (pList x6 x7 x8 W) (ix4 0 r w d) = I.out b ⟨4 * j.val + r.val, by omega⟩ w d := by
  have hso : View.ld x7 (Rect.unit ![0, 0] S1x256.size inb_S1x256_S1x256_0_0) (ix2 0 d) = I.so d :=
    (ld_unit x7 inb_S1x256_S1x256_0_0 (ix2 0 d) (ix2 0 d) fun x => by fin_cases x <;> exact (Nat.zero_add _).symm).trans (O.so d)
  have hbo : View.ld x8 (Rect.unit ![0, 0] S1x256.size inb_S1x256_S1x256_0_0) (ix2 0 d) = I.bo d :=
    (ld_unit x8 inb_S1x256_S1x256_0_0 (ix2 0 d) (ix2 0 d) fun x => by fin_cases x <;> exact (Nat.zero_add _).symm).trans (O.bo d)
  have hw : ∀ (k : ℕ) (inb : ∀ x, ![k, 0, 0] x + S1x256x256.size x ≤ S9x256x256.size x) (dy dx : Fin 3), 3 * dy.val + dx.val = k →
      ∀ p d : Fin 256, View.ld x6 (Rect.unit ![k, 0, 0] S1x256x256.size inb) (ix3 0 p d) = I.wo dy dx (orig p) d := fun k inb dy dx hk p d =>
    (ld_unit x6 inb (ix3 ⟨3 * dy.val + dx.val, by omega⟩ p d) (ix3 0 p d) fun x => by
      fin_cases x
      exacts [hk, (Nat.zero_add _).symm, (Nat.zero_add _).symm]).trans (O.wo dy dx p d)
  rw [canon_over]
  generalize (fun _ => Classical.arbitrary _ : S1x4x304x256.Idx → Elt Ideal .bf16) = D
  have hit : ∀ (k : ℕ) (inb : ∀ x, ![0, k, 0, 0] x + S1x1x304x256.size x ≤ S1x4x304x256.size x) (v : Vec Ideal S1x1x304x256 .bf16)
      (L : List (View.Piece (Elt Ideal) S1x4x304x256 .bf16)),
      over D (⟨Rect.unit ![0, k, 0, 0] S1x1x304x256.size inb, v⟩ :: L) (ix4 0 r w d) = if r.val = k then v (ix4 0 0 w d) else over D L (ix4 0 r w d) := by
    intro k inb v L
    by_cases hk : r.val = k
    · rw [if_pos hk]
      refine over_unit_hit D inb v L _ (ix4 0 0 w d) fun x => ?_
      fin_cases x
      · rfl
      · exact hk
      · exact (Nat.zero_add _).symm
      · exact (Nat.zero_add _).symm
    · rw [if_neg hk]
      refine over_unit_miss D inb v L _ 1 ?_
      show r.val < k ∨ k + 1 ≤ r.val
      omega
  let T : Fin 3 → Fin 3 → Vec Ideal S1x256x256 .fp8e4m3 :=
    ![![View.ld x6 (Rect.unit ![0, 0, 0] S1x256x256.size inb_S9x256x256_S1x256x256_0_0_0), View.ld x6 (Rect.unit ![1, 0, 0] S1x256x256.size inb_S9x256x256_S1x256x256_1_0_0), View.ld x6 (Rect.unit ![2, 0, 0] S1x256x256.size inb_S9x256x256_S1x256x256_2_0_0)],
      ![View.ld x6 (Rect.unit ![3, 0, 0] S1x256x256.size inb_S9x256x256_S1x256x256_3_0_0), View.ld x6 (Rect.unit ![4, 0, 0] S1x256x256.size inb_S9x256x256_S1x256x256_4_0_0), View.ld x6 (Rect.unit ![5, 0, 0] S1x256x256.size inb_S9x256x256_S1x256x256_5_0_0)],
      ![View.ld x6 (Rect.unit ![6, 0, 0] S1x256x256.size inb_S9x256x256_S1x256x256_6_0_0), View.ld x6 (Rect.unit ![7, 0, 0] S1x256x256.size inb_S9x256x256_S1x256x256_7_0_0), View.ld x6 (Rect.unit ![8, 0, 0] S1x256x256.size inb_S9x256x256_S1x256x256_8_0_0)]]
  have hT : ∀ (dy dx : Fin 3) (p d : Fin 256), T dy dx (ix3 0 p d) = I.wo dy dx (orig p) d := by
    intro dy dx
    fin_cases dy <;> fin_cases dx
    exacts [hw 0 _ 0 0 rfl, hw 1 _ 0 1 rfl, hw 2 _ 0 2 rfl, hw 3 _ 1 0 rfl, hw 4 _ 1 1 rfl, hw 5 _ 1 2 rfl, hw 6 _ 2 0 rfl, hw 7 _ 2 1 rfl, hw 8 _ 2 2 rfl]
  have key : ∀ s : Fin 3 → Fin 6, (∀ dy : Fin 3, (s dy).val = r.val + dy.val) →
      Row.pRow (W (s 0) 0 0) (W (s 0) 1 0) (W (s 0) 0 1) (W (s 0) 1 1) (W (s 0) 0 2) (W (s 0) 1 2) (W (s 1) 0 0) (W (s 1) 1 0) (W (s 1) 0 1)
        (W (s 1) 1 1) (W (s 1) 0 2) (W (s 1) 1 2) (W (s 2) 0 0) (W (s 2) 1 0) (W (s 2) 0 1) (W (s 2) 1 1) (W (s 2) 0 2) (W (s 2) 1 2)
        (T 0 0) (T 0 1) (T 0 2) (T 1 0) (T 1 1) (T 1 2) (T 2 0) (T 2 1) (T 2 2)
        (View.ld x7 (Rect.unit ![0, 0] S1x256.size inb_S1x256_S1x256_0_0)) (View.ld x8 (Rect.unit ![0, 0] S1x256.size inb_S1x256_S1x256_0_0))
        (ix4 0 0 w d) = I.out b ⟨4 * j.val + r.val, by omega⟩ w d := fun s hs =>
    Row.pRow_at (fun dy dx h => W (s dy) h dx) T _ _ w d
      (fun dy dx l => by rw [hW, hs, ← Nat.add_assoc]; rfl) (fun dy dx l => by rw [hW, hs, ← Nat.add_assoc]; rfl) (fun dy dx p => hT dy dx p d) hso hbo
  unfold pList
  by_cases e3 : r.val = 3
  · rw [hit, if_pos e3]
    exact key ![3, 4, 5] fun dy => by rw [e3]; fin_cases dy <;> rfl
  rw [hit, if_neg e3]
  by_cases e2 : r.val = 2
  · rw [hit, if_pos e2]
    exact key ![2, 3, 4] fun dy => by rw [e2]; fin_cases dy <;> rfl
  rw [hit, if_neg e2]
  by_cases e1 : r.val = 1
  · rw [hit, if_pos e1]
    exact key ![1, 2, 3] fun dy => by rw [e1]; fin_cases dy <;> rfl
  rw [hit, if_neg e1, hit, if_pos (by omega)]
  exact key ![0, 1, 2] fun dy => by rw [show r.val = 0 by omega]; fin_cases dy <;> rfl

end Loaded

end Cert.Level2.Step

end
-- ==== Proof.Pieces.lean ====
/- The writes of each branch of the kernel, as the point's vocabulary. -/
module

public import proofs.«01_k».proof.Proof.Step

@[expose] public section

set_option maxHeartbeats 4000000

noncomputable section

namespace Cert.Level2.Step

open Idealize.ShloMosaic Idealize.SL.Sem Cert.KernelIdeal Cert.KernelIdeal.Gen

variable {F : FTy → Type} [FloatOps F]

attribute [local irreducible] over View.canon

section A

variable (c : Dev nD) (i : grid0.Coords) (arg1 : Memref sig .tc .smem S1 .f32) (harg1 : arg1.IsWhole) (arg2 : Memref sig .tc .vmem S1x4x96x304 .fp8e4m3) (harg2 : arg2.IsWhole) (arg3 : Memref sig .tc .vmem S1x2x152x256 .f32) (harg3 : arg3.IsWhole) (arg4 : Memref sig .tc .vmem S96x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .fp8e4m3) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4x304x256 .bf16) (harg10 : arg10.IsWhole) (arg11 : Memref sig .tc .vmem S1x4x304x256 .fp8e4m3) (harg11 : arg11.IsWhole) (arg12 : Memref sig .tc .vmem S1x4x8x304 .f32) (harg12 : arg12.IsWhole) (arg13 : Memref sig .tc .vmem S2x6x320x128 .f32) (harg13 : arg13.IsWhole) (arg14 : Memref sig .tc .vmem S2x6x320x128 .f32) (harg14 : arg14.IsWhole) (arg15 : Memref sig .tc .vmem S2x304x128 .f32) (harg15 : arg15.IsWhole) (hc0 : cond0_0 i) (hc1 : cond0_1 i) (hc2 : ¬cond0_2 i) (x0 : Vec F S1 .f32) (x1 : Vec F S1x4x96x304 .fp8e4m3) (x2 : Vec F S1x2x152x256 .f32) (x3 : Vec F S96x256 .fp8e4m3) (x4 : Vec F S1x256 .f32) (x5 : Vec F S1x256 .f32) (x6 : Vec F S9x256x256 .fp8e4m3) (x7 : Vec F S1x256 .f32) (x8 : Vec F S1x256 .f32)

include c

theorem q_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.1
    = qList (m0 x0 x1 x2 x3 x4 x5) (m1 x0 x1 x2 x3 x4 x5) (m2 x0 x1 x2 x3 x4 x5) (m3 x0 x1 x2 x3 x4 x5) := by
  unfold kernelRun0_A
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread]
  rfl

theorem sc_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.1
    = scList (m0 x0 x1 x2 x3 x4 x5) (m1 x0 x1 x2 x3 x4 x5) (m2 x0 x1 x2 x3 x4 x5) (m3 x0 x1 x2 x3 x4 x5) := by
  unfold kernelRun0_A
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread]
  rfl

theorem s13_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.2.1
    = dstList (flag i) (View.canon (⟨Rect.unit ![0, 5, 0, 0] S1x1x320x128.size inb_S2x6x320x128_S1x1x320x128_0_5_0_0, edge (flag i) (scratchRow (View.canon (rows (m0 x0 x1 x2 x3 x4 x5) (m1 x0 x1 x2 x3 x4 x5) (m2 x0 x1 x2 x3 x4 x5) (m3 x0 x1 x2 x3 x4 x5) zeros)) ![0, 1, 0, 0] inb_S2x6x320x128_S1x1x320x128_0_1_0_0)⟩ :: zeros)) (View.canon (srcList (flag i) (View.canon (rows (m0 x0 x1 x2 x3 x4 x5) (m1 x0 x1 x2 x3 x4 x5) (m2 x0 x1 x2 x3 x4 x5) (m3 x0 x1 x2 x3 x4 x5) zeros)) (View.canon (⟨Rect.unit ![0, 0, 0, 0] S1x1x320x128.size inb_S2x6x320x128_S1x1x320x128_0_0_0_0, edge (flag i) (scratchRow (View.canon (⟨Rect.unit ![0, 5, 0, 0] S1x1x320x128.size inb_S2x6x320x128_S1x1x320x128_0_5_0_0, edge (flag i) (scratchRow (View.canon (rows (m0 x0 x1 x2 x3 x4 x5) (m1 x0 x1 x2 x3 x4 x5) (m2 x0 x1 x2 x3 x4 x5) (m3 x0 x1 x2 x3 x4 x5) zeros)) ![0, 1, 0, 0] inb_S2x6x320x128_S1x1x320x128_0_1_0_0)⟩ :: zeros)) ![0, 4, 0, 0] inb_S2x6x320x128_S1x1x320x128_0_4_0_0)⟩ :: (rows (m0 x0 x1 x2 x3 x4 x5) (m1 x0 x1 x2 x3 x4 x5) (m2 x0 x1 x2 x3 x4 x5) (m3 x0 x1 x2 x3 x4 x5) zeros))) zeros)) (rows (m0 x0 x1 x2 x3 x4 x5) (m1 x0 x1 x2 x3 x4 x5) (m2 x0 x1 x2 x3 x4 x5) (m3 x0 x1 x2 x3 x4 x5) zeros) := by
  unfold kernelRun0_A
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread]
  rfl

theorem s14_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).2.2.2.2.1
    = srcList (flag i) (View.canon (rows (m0 x0 x1 x2 x3 x4 x5) (m1 x0 x1 x2 x3 x4 x5) (m2 x0 x1 x2 x3 x4 x5) (m3 x0 x1 x2 x3 x4 x5) zeros)) (View.canon (⟨Rect.unit ![0, 0, 0, 0] S1x1x320x128.size inb_S2x6x320x128_S1x1x320x128_0_0_0_0, edge (flag i) (scratchRow (View.canon (⟨Rect.unit ![0, 5, 0, 0] S1x1x320x128.size inb_S2x6x320x128_S1x1x320x128_0_5_0_0, edge (flag i) (scratchRow (View.canon (rows (m0 x0 x1 x2 x3 x4 x5) (m1 x0 x1 x2 x3 x4 x5) (m2 x0 x1 x2 x3 x4 x5) (m3 x0 x1 x2 x3 x4 x5) zeros)) ![0, 1, 0, 0] inb_S2x6x320x128_S1x1x320x128_0_1_0_0)⟩ :: zeros)) ![0, 4, 0, 0] inb_S2x6x320x128_S1x1x320x128_0_4_0_0)⟩ :: (rows (m0 x0 x1 x2 x3 x4 x5) (m1 x0 x1 x2 x3 x4 x5) (m2 x0 x1 x2 x3 x4 x5) (m3 x0 x1 x2 x3 x4 x5) zeros))) zeros := by
  unfold kernelRun0_A
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread]
  rfl

/-- The windows that the branch reads. -/
def wins_A (i : grid0.Coords) (hc : cond0_1 i) (S S5 : S2x6x320x128.Idx → Elt F .f32) : Fin 6 → Fin 2 → Fin 3 → Vec F S1x1x304x128 .f32
  | 0, 0, d => win S (k0_off1 i (BitVec.ofNat 32 (7 + d.val))) (k0_off1_inb i hc d)
  | 0, 1, d => win S (k0_off2 i (BitVec.ofNat 32 (7 + d.val))) (k0_off2_inb i hc d)
  | 1, 0, d => win S (k0_off3 i (BitVec.ofNat 32 (7 + d.val))) (k0_off3_inb i hc d)
  | 1, 1, d => win S (k0_off4 i (BitVec.ofNat 32 (7 + d.val))) (k0_off4_inb i hc d)
  | 2, 0, d => win S (k0_off5 i (BitVec.ofNat 32 (7 + d.val))) (k0_off5_inb i hc d)
  | 2, 1, d => win S (k0_off6 i (BitVec.ofNat 32 (7 + d.val))) (k0_off6_inb i hc d)
  | 3, 0, d => win S (k0_off7 i (BitVec.ofNat 32 (7 + d.val))) (k0_off7_inb i hc d)
  | 3, 1, d => win S (k0_off8 i (BitVec.ofNat 32 (7 + d.val))) (k0_off8_inb i hc d)
  | 4, 0, d => win S (k0_off9 i (BitVec.ofNat 32 (7 + d.val))) (k0_off9_inb i hc d)
  | 4, 1, d => win S (k0_off10 i (BitVec.ofNat 32 (7 + d.val))) (k0_off10_inb i hc d)
  | 5, 0, d => win S5 (k0_off11 i (BitVec.ofNat 32 (7 + d.val))) (k0_off11_inb i hc d)
  | 5, 1, d => win S5 (k0_off12 i (BitVec.ofNat 32 (7 + d.val))) (k0_off12_inb i hc d)

theorem p_A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8).1
    = pList x6 x7 x8 (wins_A i hc1 (View.canon (srcList (flag i) (View.canon (rows (m0 x0 x1 x2 x3 x4 x5) (m1 x0 x1 x2 x3 x4 x5) (m2 x0 x1 x2 x3 x4 x5) (m3 x0 x1 x2 x3 x4 x5) zeros)) (View.canon (⟨Rect.unit ![0, 0, 0, 0] S1x1x320x128.size inb_S2x6x320x128_S1x1x320x128_0_0_0_0, edge (flag i) (scratchRow (View.canon (⟨Rect.unit ![0, 5, 0, 0] S1x1x320x128.size inb_S2x6x320x128_S1x1x320x128_0_5_0_0, edge (flag i) (scratchRow (View.canon (rows (m0 x0 x1 x2 x3 x4 x5) (m1 x0 x1 x2 x3 x4 x5) (m2 x0 x1 x2 x3 x4 x5) (m3 x0 x1 x2 x3 x4 x5) zeros)) ![0, 1, 0, 0] inb_S2x6x320x128_S1x1x320x128_0_1_0_0)⟩ :: zeros)) ![0, 4, 0, 0] inb_S2x6x320x128_S1x1x320x128_0_4_0_0)⟩ :: (rows (m0 x0 x1 x2 x3 x4 x5) (m1 x0 x1 x2 x3 x4 x5) (m2 x0 x1 x2 x3 x4 x5) (m3 x0 x1 x2 x3 x4 x5) zeros))) zeros)) (View.canon (srcList (flag i) (View.canon (rows (m0 x0 x1 x2 x3 x4 x5) (m1 x0 x1 x2 x3 x4 x5) (m2 x0 x1 x2 x3 x4 x5) (m3 x0 x1 x2 x3 x4 x5) zeros)) (View.canon (⟨Rect.unit ![0, 0, 0, 0] S1x1x320x128.size inb_S2x6x320x128_S1x1x320x128_0_0_0_0, edge (flag i) (scratchRow (View.canon (⟨Rect.unit ![0, 5, 0, 0] S1x1x320x128.size inb_S2x6x320x128_S1x1x320x128_0_5_0_0, edge (flag i) (scratchRow (View.canon (rows (m0 x0 x1 x2 x3 x4 x5) (m1 x0 x1 x2 x3 x4 x5) (m2 x0 x1 x2 x3 x4 x5) (m3 x0 x1 x2 x3 x4 x5) zeros)) ![0, 1, 0, 0] inb_S2x6x320x128_S1x1x320x128_0_1_0_0)⟩ :: zeros)) ![0, 4, 0, 0] inb_S2x6x320x128_S1x1x320x128_0_4_0_0)⟩ :: (rows (m0 x0 x1 x2 x3 x4 x5) (m1 x0 x1 x2 x3 x4 x5) (m2 x0 x1 x2 x3 x4 x5) (m3 x0 x1 x2 x3 x4 x5) zeros))) zeros))) := by
  unfold kernelRun0_A
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread]
  rfl

end A

section B

variable (c : Dev nD) (i : grid0.Coords) (arg1 : Memref sig .tc .smem S1 .f32) (harg1 : arg1.IsWhole) (arg2 : Memref sig .tc .vmem S1x4x96x304 .fp8e4m3) (harg2 : arg2.IsWhole) (arg3 : Memref sig .tc .vmem S1x2x152x256 .f32) (harg3 : arg3.IsWhole) (arg4 : Memref sig .tc .vmem S96x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .fp8e4m3) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4x304x256 .bf16) (harg10 : arg10.IsWhole) (arg11 : Memref sig .tc .vmem S1x4x304x256 .fp8e4m3) (harg11 : arg11.IsWhole) (arg12 : Memref sig .tc .vmem S1x4x8x304 .f32) (harg12 : arg12.IsWhole) (arg13 : Memref sig .tc .vmem S2x6x320x128 .f32) (harg13 : arg13.IsWhole) (arg14 : Memref sig .tc .vmem S2x6x320x128 .f32) (harg14 : arg14.IsWhole) (arg15 : Memref sig .tc .vmem S2x304x128 .f32) (harg15 : arg15.IsWhole) (hc0 : ¬cond0_0 i) (hc1 : ¬cond0_1 i) (hc2 : cond0_2 i) (x0 : Vec F S1 .f32) (x1 : Vec F S1x4x96x304 .fp8e4m3) (x2 : Vec F S1x2x152x256 .f32) (x3 : Vec F S96x256 .fp8e4m3) (x4 : Vec F S1x256 .f32) (x5 : Vec F S1x256 .f32) (x6 : Vec F S9x256x256 .fp8e4m3) (x7 : Vec F S1x256 .f32) (x8 : Vec F S1x256 .f32) (xs0 : Vec F S2x6x320x128 .f32) (xs1 : Vec F S2x6x320x128 .f32)

include c

theorem q_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).2.1
    = qList (m0 x0 x1 x2 x3 x4 x5) (m1 x0 x1 x2 x3 x4 x5) (m2 x0 x1 x2 x3 x4 x5) (m3 x0 x1 x2 x3 x4 x5) := by
  unfold kernelRun0_B
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

theorem sc_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).2.2.1
    = scList (m0 x0 x1 x2 x3 x4 x5) (m1 x0 x1 x2 x3 x4 x5) (m2 x0 x1 x2 x3 x4 x5) (m3 x0 x1 x2 x3 x4 x5) := by
  unfold kernelRun0_B
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

theorem s13_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).2.2.2.1
    = srcList (flag i) (over xs1 (rows (m0 x0 x1 x2 x3 x4 x5) (m1 x0 x1 x2 x3 x4 x5) (m2 x0 x1 x2 x3 x4 x5) (m3 x0 x1 x2 x3 x4 x5) [])) (over xs1 (⟨Rect.unit ![0, 0, 0, 0] S1x1x320x128.size inb_S2x6x320x128_S1x1x320x128_0_0_0_0, edge (flag i) (scratchRow xs0 ![0, 4, 0, 0] inb_S2x6x320x128_S1x1x320x128_0_4_0_0)⟩ :: (rows (m0 x0 x1 x2 x3 x4 x5) (m1 x0 x1 x2 x3 x4 x5) (m2 x0 x1 x2 x3 x4 x5) (m3 x0 x1 x2 x3 x4 x5) []))) [] := by
  unfold kernelRun0_B
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

theorem s14_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).2.2.2.2.1
    = dstList (flag i) xs0 xs0 (rows (m0 x0 x1 x2 x3 x4 x5) (m1 x0 x1 x2 x3 x4 x5) (m2 x0 x1 x2 x3 x4 x5) (m3 x0 x1 x2 x3 x4 x5) []) := by
  unfold kernelRun0_B
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

/-- The windows that the branch reads. -/
def wins_B (i : grid0.Coords) (hc : cond0_2 i) (S S5 : S2x6x320x128.Idx → Elt F .f32) : Fin 6 → Fin 2 → Fin 3 → Vec F S1x1x304x128 .f32
  | 0, 0, d => win S (k0_off13 i (BitVec.ofNat 32 (7 + d.val))) (k0_off13_inb i hc d)
  | 0, 1, d => win S (k0_off14 i (BitVec.ofNat 32 (7 + d.val))) (k0_off14_inb i hc d)
  | 1, 0, d => win S (k0_off15 i (BitVec.ofNat 32 (7 + d.val))) (k0_off15_inb i hc d)
  | 1, 1, d => win S (k0_off16 i (BitVec.ofNat 32 (7 + d.val))) (k0_off16_inb i hc d)
  | 2, 0, d => win S (k0_off17 i (BitVec.ofNat 32 (7 + d.val))) (k0_off17_inb i hc d)
  | 2, 1, d => win S (k0_off18 i (BitVec.ofNat 32 (7 + d.val))) (k0_off18_inb i hc d)
  | 3, 0, d => win S (k0_off19 i (BitVec.ofNat 32 (7 + d.val))) (k0_off19_inb i hc d)
  | 3, 1, d => win S (k0_off20 i (BitVec.ofNat 32 (7 + d.val))) (k0_off20_inb i hc d)
  | 4, 0, d => win S (k0_off21 i (BitVec.ofNat 32 (7 + d.val))) (k0_off21_inb i hc d)
  | 4, 1, d => win S (k0_off22 i (BitVec.ofNat 32 (7 + d.val))) (k0_off22_inb i hc d)
  | 5, 0, d => win S5 (k0_off23 i (BitVec.ofNat 32 (7 + d.val))) (k0_off23_inb i hc d)
  | 5, 1, d => win S5 (k0_off24 i (BitVec.ofNat 32 (7 + d.val))) (k0_off24_inb i hc d)

theorem p_B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).1
    = pList x6 x7 x8 (wins_B i hc2 xs0 (View.canon (srcList (flag i) (over xs1 (rows (m0 x0 x1 x2 x3 x4 x5) (m1 x0 x1 x2 x3 x4 x5) (m2 x0 x1 x2 x3 x4 x5) (m3 x0 x1 x2 x3 x4 x5) [])) (over xs1 (⟨Rect.unit ![0, 0, 0, 0] S1x1x320x128.size inb_S2x6x320x128_S1x1x320x128_0_0_0_0, edge (flag i) (scratchRow xs0 ![0, 4, 0, 0] inb_S2x6x320x128_S1x1x320x128_0_4_0_0)⟩ :: (rows (m0 x0 x1 x2 x3 x4 x5) (m1 x0 x1 x2 x3 x4 x5) (m2 x0 x1 x2 x3 x4 x5) (m3 x0 x1 x2 x3 x4 x5) []))) []))) := by
  unfold kernelRun0_B
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

end B

section C

variable (c : Dev nD) (i : grid0.Coords) (arg1 : Memref sig .tc .smem S1 .f32) (harg1 : arg1.IsWhole) (arg2 : Memref sig .tc .vmem S1x4x96x304 .fp8e4m3) (harg2 : arg2.IsWhole) (arg3 : Memref sig .tc .vmem S1x2x152x256 .f32) (harg3 : arg3.IsWhole) (arg4 : Memref sig .tc .vmem S96x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .fp8e4m3) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4x304x256 .bf16) (harg10 : arg10.IsWhole) (arg11 : Memref sig .tc .vmem S1x4x304x256 .fp8e4m3) (harg11 : arg11.IsWhole) (arg12 : Memref sig .tc .vmem S1x4x8x304 .f32) (harg12 : arg12.IsWhole) (arg13 : Memref sig .tc .vmem S2x6x320x128 .f32) (harg13 : arg13.IsWhole) (arg14 : Memref sig .tc .vmem S2x6x320x128 .f32) (harg14 : arg14.IsWhole) (arg15 : Memref sig .tc .vmem S2x304x128 .f32) (harg15 : arg15.IsWhole) (hc0 : ¬cond0_0 i) (hc1 : cond0_1 i) (hc2 : ¬cond0_2 i) (x0 : Vec F S1 .f32) (x1 : Vec F S1x4x96x304 .fp8e4m3) (x2 : Vec F S1x2x152x256 .f32) (x3 : Vec F S96x256 .fp8e4m3) (x4 : Vec F S1x256 .f32) (x5 : Vec F S1x256 .f32) (x6 : Vec F S9x256x256 .fp8e4m3) (x7 : Vec F S1x256 .f32) (x8 : Vec F S1x256 .f32) (xs0 : Vec F S2x6x320x128 .f32) (xs1 : Vec F S2x6x320x128 .f32)

include c

theorem q_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).2.1
    = qList (m0 x0 x1 x2 x3 x4 x5) (m1 x0 x1 x2 x3 x4 x5) (m2 x0 x1 x2 x3 x4 x5) (m3 x0 x1 x2 x3 x4 x5) := by
  unfold kernelRun0_C
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

theorem sc_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).2.2.1
    = scList (m0 x0 x1 x2 x3 x4 x5) (m1 x0 x1 x2 x3 x4 x5) (m2 x0 x1 x2 x3 x4 x5) (m3 x0 x1 x2 x3 x4 x5) := by
  unfold kernelRun0_C
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

theorem s13_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).2.2.2.1
    = dstList (flag i) xs1 xs1 (rows (m0 x0 x1 x2 x3 x4 x5) (m1 x0 x1 x2 x3 x4 x5) (m2 x0 x1 x2 x3 x4 x5) (m3 x0 x1 x2 x3 x4 x5) []) := by
  unfold kernelRun0_C
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

theorem s14_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).2.2.2.2.1
    = srcList (flag i) (over xs0 (rows (m0 x0 x1 x2 x3 x4 x5) (m1 x0 x1 x2 x3 x4 x5) (m2 x0 x1 x2 x3 x4 x5) (m3 x0 x1 x2 x3 x4 x5) [])) (over xs0 (⟨Rect.unit ![0, 0, 0, 0] S1x1x320x128.size inb_S2x6x320x128_S1x1x320x128_0_0_0_0, edge (flag i) (scratchRow xs1 ![0, 4, 0, 0] inb_S2x6x320x128_S1x1x320x128_0_4_0_0)⟩ :: (rows (m0 x0 x1 x2 x3 x4 x5) (m1 x0 x1 x2 x3 x4 x5) (m2 x0 x1 x2 x3 x4 x5) (m3 x0 x1 x2 x3 x4 x5) []))) [] := by
  unfold kernelRun0_C
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

/-- The windows that the branch reads. -/
def wins_C (i : grid0.Coords) (hc : cond0_1 i) (S S5 : S2x6x320x128.Idx → Elt F .f32) : Fin 6 → Fin 2 → Fin 3 → Vec F S1x1x304x128 .f32
  | 0, 0, d => win S (k0_off1 i (BitVec.ofNat 32 (7 + d.val))) (k0_off1_inb i hc d)
  | 0, 1, d => win S (k0_off2 i (BitVec.ofNat 32 (7 + d.val))) (k0_off2_inb i hc d)
  | 1, 0, d => win S (k0_off3 i (BitVec.ofNat 32 (7 + d.val))) (k0_off3_inb i hc d)
  | 1, 1, d => win S (k0_off4 i (BitVec.ofNat 32 (7 + d.val))) (k0_off4_inb i hc d)
  | 2, 0, d => win S (k0_off5 i (BitVec.ofNat 32 (7 + d.val))) (k0_off5_inb i hc d)
  | 2, 1, d => win S (k0_off6 i (BitVec.ofNat 32 (7 + d.val))) (k0_off6_inb i hc d)
  | 3, 0, d => win S (k0_off7 i (BitVec.ofNat 32 (7 + d.val))) (k0_off7_inb i hc d)
  | 3, 1, d => win S (k0_off8 i (BitVec.ofNat 32 (7 + d.val))) (k0_off8_inb i hc d)
  | 4, 0, d => win S (k0_off9 i (BitVec.ofNat 32 (7 + d.val))) (k0_off9_inb i hc d)
  | 4, 1, d => win S (k0_off10 i (BitVec.ofNat 32 (7 + d.val))) (k0_off10_inb i hc d)
  | 5, 0, d => win S5 (k0_off11 i (BitVec.ofNat 32 (7 + d.val))) (k0_off11_inb i hc d)
  | 5, 1, d => win S5 (k0_off12 i (BitVec.ofNat 32 (7 + d.val))) (k0_off12_inb i hc d)

theorem p_C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1).1
    = pList x6 x7 x8 (wins_C i hc1 xs1 (View.canon (srcList (flag i) (over xs0 (rows (m0 x0 x1 x2 x3 x4 x5) (m1 x0 x1 x2 x3 x4 x5) (m2 x0 x1 x2 x3 x4 x5) (m3 x0 x1 x2 x3 x4 x5) [])) (over xs0 (⟨Rect.unit ![0, 0, 0, 0] S1x1x320x128.size inb_S2x6x320x128_S1x1x320x128_0_0_0_0, edge (flag i) (scratchRow xs1 ![0, 4, 0, 0] inb_S2x6x320x128_S1x1x320x128_0_4_0_0)⟩ :: (rows (m0 x0 x1 x2 x3 x4 x5) (m1 x0 x1 x2 x3 x4 x5) (m2 x0 x1 x2 x3 x4 x5) (m3 x0 x1 x2 x3 x4 x5) []))) []))) := by
  unfold kernelRun0_C
  dsimp only
  sl_unfold_words
  simp only [View.readAt_eq_ld, View.readCov_eq_canon', read_writes_over, harg1.read_unread, harg2.read_unread, harg3.read_unread, harg4.read_unread, harg5.read_unread, harg6.read_unread, harg7.read_unread, harg8.read_unread, harg9.read_unread, harg13.read_unread, harg14.read_unread]
  rfl

end C

end Cert.Level2.Step

end
-- ==== Proof.Scratch.lean ====
/- What a point of the grid leaves in the two scratch maps, and the convolution of the block before it. -/
module

public import proofs.«01_k».proof.Proof.StepBlock
public import proofs.«01_k».proof.Proof.Pieces

@[expose] public section

noncomputable section

namespace Cert.Level2.Step

open Idealize.ShloMosaic Idealize.SL.Sem Cert.KernelIdeal Cert.KernelIdeal.Gen

local notation "Scr" => S2x6x320x128.Idx → Elt Ideal EltTy.f32

/-- The windows that a branch reads are the other map's, by row, half and shift; the last row is read after it is written. -/
theorem wins_A_at (i : grid0.Coords) (hc : cond0_1 i) (S S5 : Scr) (y : Fin 6) (h : Fin 2) (o : Fin 3) (w : Fin 304) (l : Fin 128) :
    wins_A i hc S S5 y h o (ix4 0 0 w l) = (if y = 5 then S5 else S) (ix4 h y ⟨7 + (w.val + o.val), by omega⟩ l) := by
  obtain rfl | rfl | rfl | rfl | rfl | rfl : y = 0 ∨ y = 1 ∨ y = 2 ∨ y = 3 ∨ y = 4 ∨ y = 5 := by omega
  all_goals obtain rfl | rfl : h = 0 ∨ h = 1 := by omega
  · exact win_at S _ _ 0 0 o (k0_off1_eq i o) w l
  · exact win_at S _ _ 1 0 o (k0_off2_eq i o) w l
  · exact win_at S _ _ 0 1 o (k0_off3_eq i o) w l
  · exact win_at S _ _ 1 1 o (k0_off4_eq i o) w l
  · exact win_at S _ _ 0 2 o (k0_off5_eq i o) w l
  · exact win_at S _ _ 1 2 o (k0_off6_eq i o) w l
  · exact win_at S _ _ 0 3 o (k0_off7_eq i o) w l
  · exact win_at S _ _ 1 3 o (k0_off8_eq i o) w l
  · exact win_at S _ _ 0 4 o (k0_off9_eq i o) w l
  · exact win_at S _ _ 1 4 o (k0_off10_eq i o) w l
  · exact win_at S5 _ _ 0 5 o (k0_off11_eq i o) w l
  · exact win_at S5 _ _ 1 5 o (k0_off12_eq i o) w l

theorem wins_C_at (i : grid0.Coords) (hc : cond0_1 i) (S S5 : Scr) (y : Fin 6) (h : Fin 2) (o : Fin 3) (w : Fin 304) (l : Fin 128) :
    wins_C i hc S S5 y h o (ix4 0 0 w l) = (if y = 5 then S5 else S) (ix4 h y ⟨7 + (w.val + o.val), by omega⟩ l) := by
  refine Eq.trans ?_ (wins_A_at i hc S S5 y h o w l)
  obtain rfl | rfl | rfl | rfl | rfl | rfl : y = 0 ∨ y = 1 ∨ y = 2 ∨ y = 3 ∨ y = 4 ∨ y = 5 := by omega
  all_goals obtain rfl | rfl : h = 0 ∨ h = 1 := by omega
  all_goals rfl

theorem wins_B_at (i : grid0.Coords) (hc : cond0_2 i) (S S5 : Scr) (y : Fin 6) (h : Fin 2) (o : Fin 3) (w : Fin 304) (l : Fin 128) :
    wins_B i hc S S5 y h o (ix4 0 0 w l) = (if y = 5 then S5 else S) (ix4 h y ⟨7 + (w.val + o.val), by omega⟩ l) := by
  obtain rfl | rfl | rfl | rfl | rfl | rfl : y = 0 ∨ y = 1 ∨ y = 2 ∨ y = 3 ∨ y = 4 ∨ y = 5 := by omega
  all_goals obtain rfl | rfl : h = 0 ∨ h = 1 := by omega
  · exact win_at S _ _ 0 0 o (k0_off13_eq i o) w l
  · exact win_at S _ _ 1 0 o (k0_off14_eq i o) w l
  · exact win_at S _ _ 0 1 o (k0_off15_eq i o) w l
  · exact win_at S _ _ 1 1 o (k0_off16_eq i o) w l
  · exact win_at S _ _ 0 2 o (k0_off17_eq i o) w l
  · exact win_at S _ _ 1 2 o (k0_off18_eq i o) w l
  · exact win_at S _ _ 0 3 o (k0_off19_eq i o) w l
  · exact win_at S _ _ 1 3 o (k0_off20_eq i o) w l
  · exact win_at S _ _ 0 4 o (k0_off21_eq i o) w l
  · exact win_at S _ _ 1 4 o (k0_off22_eq i o) w l
  · exact win_at S5 _ _ 0 5 o (k0_off23_eq i o) w l
  · exact win_at S5 _ _ 1 5 o (k0_off24_eq i o) w l

section Steps

variable {I : Inputs} {b b' : Fin 12} {j j' : Fin 44} {m0 m1 m2 m3 : FVec Ideal S304x256 .f32} {x6 : Vec Ideal S9x256x256 .fp8e4m3}
  {x7 x8 : Vec Ideal S1x256 .f32} {f : BitVec 1}

/-- The contents that the last row of the other map is copied from: the filled map's after its rows, and after its first half's first row. -/
def after0 (D S : Scr) (f : BitVec 1) (R : List (View.Piece (Elt Ideal) S2x6x320x128 .f32)) : Scr :=
  over D (⟨Rect.unit ![0, 0, 0, 0] S1x1x320x128.size inb_S2x6x320x128_S1x1x320x128_0_0_0_0,
    edge f (scratchRow S ![0, 4, 0, 0] inb_S2x6x320x128_S1x1x320x128_0_4_0_0)⟩ :: R)

/-- The convolution of the block before, when the other map holds it, is complete once its last row is written. -/
theorem conv_at (O : OutArgs I x6 x7 x8) (R : RowsOf I b j m0 m1 m2 m3) (D S X : Scr) (hD : Clean D) (hS : Filled I b' j' S)
    (hn : (f = 1#1 ∧ j'.val = 43) ∨ (f ≠ 1#1 ∧ b = b' ∧ j.val = j'.val + 1)) (L : List (View.Piece (Elt Ideal) S2x6x320x128 .f32))
    (W : Fin 6 → Fin 2 → Fin 3 → Vec Ideal S1x1x304x128 .f32)
    (hW : ∀ (y : Fin 6) (h : Fin 2) (o : Fin 3) (w : Fin 304) (l : Fin 128), W y h o (ix4 0 0 w l)
      = (if y = 5 then over X (srcList f (over D (rows m0 m1 m2 m3 [])) (after0 D S f (rows m0 m1 m2 m3 [])) L) else S)
        (ix4 h y ⟨7 + (w.val + o.val), by omega⟩ l))
    (r : Fin 4) (w : Fin 304) (d : Fin 256) :
    View.canon (pList x6 x7 x8 W) (ix4 0 r w d) = I.out b' ⟨4 * j'.val + r.val, by omega⟩ w d := by
  refine p_at O W (fun y h o w l => ?_) r w d
  rw [hW]
  have ew : w.val + o.val = 7 + (w.val + o.val) - 7 := by omega
  by_cases hy : y = 5
  · subst hy
    rw [if_pos rfl, src_last]
    rcases hn with ⟨hf, hj⟩ | ⟨hf, rfl, hj⟩
    · rw [if_pos hf]
      unfold Inputs.padded
      rw [dif_neg]
      rintro ⟨⟨-, h2⟩, -⟩
      have : (4 * j'.val + 5 : ℕ) < 177 := h2
      omega
    · rw [if_neg hf]
      have e : (if h = 0 then over D (rows m0 m1 m2 m3 []) else after0 D S f (rows m0 m1 m2 m3 []))
          (ix4 h 1 ⟨7 + (w.val + o.val), by omega⟩ l) = over D (rows m0 m1 m2 m3 []) (ix4 h 1 ⟨7 + (w.val + o.val), by omega⟩ l) := by
        by_cases h0 : h = 0
        · rw [if_pos h0]
        · rw [if_neg h0]
          unfold after0
          rw [over_full, if_neg]
          rintro ⟨-, h1⟩
          exact absurd h1 (by decide)
      rw [e, filled_row D R [] hD h 1 ⟨7 + (w.val + o.val), by omega⟩ l (by decide) (by decide) (by show 7 ≤ 7 + _; omega) (by show 7 + _ < 313; omega)]
      show I.padded b (4 * j.val + 1) (7 + (w.val + o.val) - 7) _ = I.padded b (4 * j'.val + 5) (w.val + o.val) _
      rw [← ew, hj]
      exact congrArg (fun n => I.padded b n _ _) (by omega)
  · rw [if_neg hy, hS h y _ l (by have := y.isLt; have : y.val ≠ 5 := fun e => hy (Fin.ext e); omega) (by show 7 ≤ 7 + _; omega) (by show 7 + _ < 313; omega)]
    exact congrArg (fun n => I.padded b' _ n _) ew.symm

/-- The filled map holds the point's block. -/
theorem filled_next (R : RowsOf I b j m0 m1 m2 m3) (D S : Scr) (hD : Clean D)
    (hn : (f = 1#1 ∧ j.val = 0) ∨ (f ≠ 1#1 ∧ b = b' ∧ j.val = j'.val + 1 ∧ Filled I b' j' S)) :
    Filled I b j (over D (dstList f S S (rows m0 m1 m2 m3 []))) := by
  refine filled D R [] f S S hD fun h c l h7 hc => ?_
  rcases hn with ⟨hf, hj⟩ | ⟨hf, rfl, hj, hS⟩
  · rw [if_pos hf]
    unfold Inputs.padded
    rw [dif_neg (by omega)]
  · rw [if_neg hf, ite_self, hS h 4 c l (by decide) h7 hc, hj]
    exact congrArg (fun n => I.padded b n _ _) (show 4 * j'.val + 4 = 4 * (j'.val + 1) by omega)

end Steps

end Cert.Level2.Step

end
-- ==== Proof.Branch.lean ====
/- What each branch of the kernel leaves: the blocks of its results and the two scratch maps. -/
module

public import proofs.«01_k».proof.Proof.Scratch

@[expose] public section

noncomputable section

namespace Cert.Level2.Step

open Idealize.ShloMosaic Idealize.SL.Sem Cert.KernelIdeal Cert.KernelIdeal.Gen

section A

variable (c : Dev nD) (i : grid0.Coords) (arg1 : Memref sig .tc .smem S1 .f32) (harg1 : arg1.IsWhole) (arg2 : Memref sig .tc .vmem S1x4x96x304 .fp8e4m3) (harg2 : arg2.IsWhole) (arg3 : Memref sig .tc .vmem S1x2x152x256 .f32) (harg3 : arg3.IsWhole) (arg4 : Memref sig .tc .vmem S96x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .fp8e4m3) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4x304x256 .bf16) (harg10 : arg10.IsWhole) (arg11 : Memref sig .tc .vmem S1x4x304x256 .fp8e4m3) (harg11 : arg11.IsWhole) (arg12 : Memref sig .tc .vmem S1x4x8x304 .f32) (harg12 : arg12.IsWhole) (arg13 : Memref sig .tc .vmem S2x6x320x128 .f32) (harg13 : arg13.IsWhole) (arg14 : Memref sig .tc .vmem S2x6x320x128 .f32) (harg14 : arg14.IsWhole) (arg15 : Memref sig .tc .vmem S2x304x128 .f32) (harg15 : arg15.IsWhole) (hc0 : cond0_0 i) (hc1 : cond0_1 i) (hc2 : ¬cond0_2 i) (x0 : Vec Ideal S1 .f32) (x1 : Vec Ideal S1x4x96x304 .fp8e4m3) (x2 : Vec Ideal S1x2x152x256 .f32) (x3 : Vec Ideal S96x256 .fp8e4m3) (x4 : Vec Ideal S1x256 .f32) (x5 : Vec Ideal S1x256 .f32) (x6 : Vec Ideal S9x256x256 .fp8e4m3) (x7 : Vec Ideal S1x256 .f32) (x8 : Vec Ideal S1x256 .f32)
  {I : Inputs} {b b' : Fin 12} {j j' : Fin 44}

theorem block_q_A (R : RowsOf I b j (m0 x0 x1 x2 x3 x4 x5) (m1 x0 x1 x2 x3 x4 x5) (m2 x0 x1 x2 x3 x4 x5) (m3 x0 x1 x2 x3 x4 x5)) (r : Fin 4) (w : Fin 304) (d : Fin 256) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 (ix4 0 r w d) = I.code b ⟨4 * j.val + r.val, by omega⟩ w d := by
  unfold out0_A_10
  rw [View.read_writes_junk_eq_canon, q_A]
  exact q_at R r w d

theorem block_sc_A (R : RowsOf I b j (m0 x0 x1 x2 x3 x4 x5) (m1 x0 x1 x2 x3 x4 x5) (m2 x0 x1 x2 x3 x4 x5) (m3 x0 x1 x2 x3 x4 x5)) (r : Fin 4) (g : Fin 8) (w : Fin 304) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 (ix4 0 r g w) = I.scale b ⟨4 * j.val + r.val, by omega⟩ w g := by
  unfold out0_A_11
  rw [View.read_writes_junk_eq_canon, sc_A]
  exact sc_at R r g w

theorem filled_A (R : RowsOf I b j (m0 x0 x1 x2 x3 x4 x5) (m1 x0 x1 x2 x3 x4 x5) (m2 x0 x1 x2 x3 x4 x5) (m3 x0 x1 x2 x3 x4 x5)) (hf : flag i = 1#1) (hj : j.val = 0) :
    Filled I b j (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8) := by
  unfold sout0_A_0
  rw [View.read_writes_junk_eq_canon, s13_A, canon_over]
  refine filled _ R _ _ _ _ (clean_zeros _) fun h c l _ _ => ?_
  rw [if_pos hf]
  unfold Inputs.padded
  rw [dif_neg (by omega)]

theorem clean_dst_A : Clean (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8) := by
  unfold sout0_A_0
  rw [View.read_writes_junk_eq_canon, s13_A, canon_over]
  exact clean_dst _ _ _ _ _ (clean_zeros _)

theorem clean_src_A : Clean (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8) := by
  unfold sout0_A_1
  rw [View.read_writes_junk_eq_canon, s14_A, canon_over]
  exact clean_src _ _ _ _ _ (clean_zeros _)

end A

section B

variable (c : Dev nD) (i : grid0.Coords) (arg1 : Memref sig .tc .smem S1 .f32) (harg1 : arg1.IsWhole) (arg2 : Memref sig .tc .vmem S1x4x96x304 .fp8e4m3) (harg2 : arg2.IsWhole) (arg3 : Memref sig .tc .vmem S1x2x152x256 .f32) (harg3 : arg3.IsWhole) (arg4 : Memref sig .tc .vmem S96x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .fp8e4m3) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4x304x256 .bf16) (harg10 : arg10.IsWhole) (arg11 : Memref sig .tc .vmem S1x4x304x256 .fp8e4m3) (harg11 : arg11.IsWhole) (arg12 : Memref sig .tc .vmem S1x4x8x304 .f32) (harg12 : arg12.IsWhole) (arg13 : Memref sig .tc .vmem S2x6x320x128 .f32) (harg13 : arg13.IsWhole) (arg14 : Memref sig .tc .vmem S2x6x320x128 .f32) (harg14 : arg14.IsWhole) (arg15 : Memref sig .tc .vmem S2x304x128 .f32) (harg15 : arg15.IsWhole) (hc0 : ¬cond0_0 i) (hc1 : ¬cond0_1 i) (hc2 : cond0_2 i) (x0 : Vec Ideal S1 .f32) (x1 : Vec Ideal S1x4x96x304 .fp8e4m3) (x2 : Vec Ideal S1x2x152x256 .f32) (x3 : Vec Ideal S96x256 .fp8e4m3) (x4 : Vec Ideal S1x256 .f32) (x5 : Vec Ideal S1x256 .f32) (x6 : Vec Ideal S9x256x256 .fp8e4m3) (x7 : Vec Ideal S1x256 .f32) (x8 : Vec Ideal S1x256 .f32) (xs0 : Vec Ideal S2x6x320x128 .f32) (xs1 : Vec Ideal S2x6x320x128 .f32)
  {I : Inputs} {b b' : Fin 12} {j j' : Fin 44}

theorem block_q_B (R : RowsOf I b j (m0 x0 x1 x2 x3 x4 x5) (m1 x0 x1 x2 x3 x4 x5) (m2 x0 x1 x2 x3 x4 x5) (m3 x0 x1 x2 x3 x4 x5)) (r : Fin 4) (w : Fin 304) (d : Fin 256) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1 (ix4 0 r w d) = I.code b ⟨4 * j.val + r.val, by omega⟩ w d := by
  unfold out0_B_10
  rw [View.read_writes_junk_eq_canon, q_B]
  exact q_at R r w d

theorem block_sc_B (R : RowsOf I b j (m0 x0 x1 x2 x3 x4 x5) (m1 x0 x1 x2 x3 x4 x5) (m2 x0 x1 x2 x3 x4 x5) (m3 x0 x1 x2 x3 x4 x5)) (r : Fin 4) (g : Fin 8) (w : Fin 304) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1 (ix4 0 r g w) = I.scale b ⟨4 * j.val + r.val, by omega⟩ w g := by
  unfold out0_B_11
  rw [View.read_writes_junk_eq_canon, sc_B]
  exact sc_at R r g w

/-- The convolution is of the block before. -/
theorem block_p_B (O : OutArgs I x6 x7 x8) (R : RowsOf I b j (m0 x0 x1 x2 x3 x4 x5) (m1 x0 x1 x2 x3 x4 x5) (m2 x0 x1 x2 x3 x4 x5) (m3 x0 x1 x2 x3 x4 x5)) (hD : Clean xs1) (hS : Filled I b' j' xs0)
    (hn : ((flag i = 1#1 ∧ j'.val = 43) ∨ (flag i ≠ 1#1 ∧ b = b' ∧ j.val = j'.val + 1))) (r : Fin 4) (w : Fin 304) (d : Fin 256) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1 (ix4 0 r w d) = I.out b' ⟨4 * j'.val + r.val, by omega⟩ w d := by
  unfold out0_B_9
  rw [View.read_writes_junk_eq_canon, p_B, canon_over (F := Ideal) (s := S2x6x320x128)]
  exact conv_at O R xs1 xs0 _ hD hS hn [] _ (fun y h o w l => wins_B_at i hc2 _ _ y h o w l) r w d

theorem filled_B (R : RowsOf I b j (m0 x0 x1 x2 x3 x4 x5) (m1 x0 x1 x2 x3 x4 x5) (m2 x0 x1 x2 x3 x4 x5) (m3 x0 x1 x2 x3 x4 x5)) (hD : Clean xs1)
    (hn : (flag i = 1#1 ∧ j.val = 0) ∨ (flag i ≠ 1#1 ∧ b = b' ∧ j.val = j'.val + 1 ∧ Filled I b' j' xs0)) :
    Filled I b j (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1) := by
  unfold sout0_B_1
  rw [read_writes_over, harg14.read_unread, s14_B]
  exact filled_next R xs1 xs0 hD hn

theorem clean_dst_B (hD : Clean xs1) : Clean (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1) := by
  unfold sout0_B_1
  rw [read_writes_over, harg14.read_unread, s14_B]
  exact clean_dst _ _ _ _ _ hD

theorem clean_src_B (hS : Clean xs0) : Clean (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1) := by
  unfold sout0_B_0
  rw [read_writes_over, harg13.read_unread, s13_B]
  exact clean_src _ _ _ _ _ hS

end B

section C

variable (c : Dev nD) (i : grid0.Coords) (arg1 : Memref sig .tc .smem S1 .f32) (harg1 : arg1.IsWhole) (arg2 : Memref sig .tc .vmem S1x4x96x304 .fp8e4m3) (harg2 : arg2.IsWhole) (arg3 : Memref sig .tc .vmem S1x2x152x256 .f32) (harg3 : arg3.IsWhole) (arg4 : Memref sig .tc .vmem S96x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .fp8e4m3) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4x304x256 .bf16) (harg10 : arg10.IsWhole) (arg11 : Memref sig .tc .vmem S1x4x304x256 .fp8e4m3) (harg11 : arg11.IsWhole) (arg12 : Memref sig .tc .vmem S1x4x8x304 .f32) (harg12 : arg12.IsWhole) (arg13 : Memref sig .tc .vmem S2x6x320x128 .f32) (harg13 : arg13.IsWhole) (arg14 : Memref sig .tc .vmem S2x6x320x128 .f32) (harg14 : arg14.IsWhole) (arg15 : Memref sig .tc .vmem S2x304x128 .f32) (harg15 : arg15.IsWhole) (hc0 : ¬cond0_0 i) (hc1 : cond0_1 i) (hc2 : ¬cond0_2 i) (x0 : Vec Ideal S1 .f32) (x1 : Vec Ideal S1x4x96x304 .fp8e4m3) (x2 : Vec Ideal S1x2x152x256 .f32) (x3 : Vec Ideal S96x256 .fp8e4m3) (x4 : Vec Ideal S1x256 .f32) (x5 : Vec Ideal S1x256 .f32) (x6 : Vec Ideal S9x256x256 .fp8e4m3) (x7 : Vec Ideal S1x256 .f32) (x8 : Vec Ideal S1x256 .f32) (xs0 : Vec Ideal S2x6x320x128 .f32) (xs1 : Vec Ideal S2x6x320x128 .f32)
  {I : Inputs} {b b' : Fin 12} {j j' : Fin 44}

theorem block_q_C (R : RowsOf I b j (m0 x0 x1 x2 x3 x4 x5) (m1 x0 x1 x2 x3 x4 x5) (m2 x0 x1 x2 x3 x4 x5) (m3 x0 x1 x2 x3 x4 x5)) (r : Fin 4) (w : Fin 304) (d : Fin 256) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1 (ix4 0 r w d) = I.code b ⟨4 * j.val + r.val, by omega⟩ w d := by
  unfold out0_C_10
  rw [View.read_writes_junk_eq_canon, q_C]
  exact q_at R r w d

theorem block_sc_C (R : RowsOf I b j (m0 x0 x1 x2 x3 x4 x5) (m1 x0 x1 x2 x3 x4 x5) (m2 x0 x1 x2 x3 x4 x5) (m3 x0 x1 x2 x3 x4 x5)) (r : Fin 4) (g : Fin 8) (w : Fin 304) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1 (ix4 0 r g w) = I.scale b ⟨4 * j.val + r.val, by omega⟩ w g := by
  unfold out0_C_11
  rw [View.read_writes_junk_eq_canon, sc_C]
  exact sc_at R r g w

/-- The convolution is of the block before. -/
theorem block_p_C (O : OutArgs I x6 x7 x8) (R : RowsOf I b j (m0 x0 x1 x2 x3 x4 x5) (m1 x0 x1 x2 x3 x4 x5) (m2 x0 x1 x2 x3 x4 x5) (m3 x0 x1 x2 x3 x4 x5)) (hD : Clean xs0) (hS : Filled I b' j' xs1)
    (hn : ((flag i = 1#1 ∧ j'.val = 43) ∨ (flag i ≠ 1#1 ∧ b = b' ∧ j.val = j'.val + 1))) (r : Fin 4) (w : Fin 304) (d : Fin 256) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1 (ix4 0 r w d) = I.out b' ⟨4 * j'.val + r.val, by omega⟩ w d := by
  unfold out0_C_9
  rw [View.read_writes_junk_eq_canon, p_C, canon_over (F := Ideal) (s := S2x6x320x128)]
  exact conv_at O R xs0 xs1 _ hD hS hn [] _ (fun y h o w l => wins_C_at i hc1 _ _ y h o w l) r w d

theorem filled_C (R : RowsOf I b j (m0 x0 x1 x2 x3 x4 x5) (m1 x0 x1 x2 x3 x4 x5) (m2 x0 x1 x2 x3 x4 x5) (m3 x0 x1 x2 x3 x4 x5)) (hD : Clean xs0)
    (hn : (flag i = 1#1 ∧ j.val = 0) ∨ (flag i ≠ 1#1 ∧ b = b' ∧ j.val = j'.val + 1 ∧ Filled I b' j' xs1)) :
    Filled I b j (sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1) := by
  unfold sout0_C_0
  rw [read_writes_over, harg13.read_unread, s13_C]
  exact filled_next R xs0 xs1 hD hn

theorem clean_dst_C (hD : Clean xs0) : Clean (sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1) := by
  unfold sout0_C_0
  rw [read_writes_over, harg13.read_unread, s13_C]
  exact clean_dst _ _ _ _ _ hD

theorem clean_src_C (hS : Clean xs1) : Clean (sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs0 xs1) := by
  unfold sout0_C_1
  rw [read_writes_over, harg14.read_unread, s14_C]
  exact clean_src _ _ _ _ _ hS

end C

end Cert.Level2.Step

end
-- ==== Proof.Grid.lean ====
/- What every point of the grid writes back: the codes and the scales of its own block, and the convolution of the block before. -/
module

public import proofs.«01_k».proof.Proof.Branch

@[expose] public section

noncomputable section

namespace Cert.Level2.Step

open Idealize.ShloMosaic Idealize.SL.Sem Cert.KernelIdeal Cert.KernelIdeal.Gen

/-- The image and the block of rows that a point works on; the point past the last works on the last again. -/
def img (t : ℕ) : Fin 12 := ⟨min t 527 / 44, by omega⟩
def blk (t : ℕ) : Fin 44 := ⟨min t 527 % 44, by omega⟩

theorem flag_iff : ∀ t : Fin cfg0.N, flag (grid0.coords t) = 1#1 ↔ t.val % 44 = 0 :=
  (by decide +kernel : ∀ t : Fin grid0.N, flag (grid0.coords t) = 1#1 ↔ t.val % 44 = 0)

theorem point_lt (t : Fin cfg0.N) : t.val < 529 := Nat.lt_of_lt_of_eq t.isLt N_0

/-- Two points in a row: either a new image starts, or the second has the image's next block. -/
theorem next (t : Fin cfg0.N) (h : 0 < t.val) :
    (flag (grid0.coords t) = 1#1 ∧ (blk (t.val - 1)).val = 43)
      ∨ (flag (grid0.coords t) ≠ 1#1 ∧ img t.val = img (t.val - 1) ∧ (blk t.val).val = (blk (t.val - 1)).val + 1) := by
  have ht := point_lt t
  by_cases h0 : t.val % 44 = 0
  · refine Or.inl ⟨(flag_iff t).mpr h0, ?_⟩
    show min (t.val - 1) 527 % 44 = 43
    omega
  · refine Or.inr ⟨fun hf => h0 ((flag_iff t).mp hf), Fin.ext ?_, ?_⟩
    · show min t.val 527 / 44 = min (t.val - 1) 527 / 44
      omega
    · show min t.val 527 % 44 = min (t.val - 1) 527 % 44 + 1
      omega

attribute [local irreducible] outsAt0 iblk out0_A_9 out0_A_10 out0_A_11 out0_B_9 out0_B_10 out0_B_11 out0_C_9 out0_C_10 out0_C_11 sout0_A_0 sout0_A_1 sout0_B_0 sout0_B_1 sout0_C_0 sout0_C_1 over View.canon

variable (m : (ℓ : Loc nD τ sig) → Buf (Elt Ideal) ℓ) (c : Dev nD) {I : Inputs}

/-- The blocks that the points load are the arguments'. -/
structure Blocks (I : Inputs) : Prop where
  row : ∀ t : Fin cfg0.N, RowArgs I (img t.val) (blk t.val) (iblk m c 0 t) (iblk m c 1 t) (iblk m c 2 t) (iblk m c 3 t) (iblk m c 4 t) (iblk m c 5 t)
  out : ∀ t : Fin cfg0.N, OutArgs I (iblk m c 6 t) (iblk m c 7 t) (iblk m c 8 t)

/-- After a point, the map it fills holds its block, and both are clean beyond their ends. -/
structure Held (I : Inputs) (t : ℕ) (X0 X1 : S2x6x320x128.Idx → Elt Ideal .f32) : Prop where
  even : t < 528 → t % 2 = 0 → Filled I (img t) (blk t) X0
  odd : t < 528 → t % 2 = 1 → Filled I (img t) (blk t) X1
  clean0 : Clean X0
  clean1 : Clean X1

variable {m c} (B : Blocks m c I)

include B in
theorem held : ∀ (n : ℕ) (hn : n < cfg0.N), Held I n (outsAt0 m c n hn).2.2.2.1 (outsAt0 m c n hn).2.2.2.2 := by
  intro n
  induction n with
  | zero =>
    intro hn
    have e := outsAt0_A m c ⟨0, hn⟩ rfl rfl (by show ¬0 % 2 = 1; omega)
    have e0 := congrArg (fun o => o.2.2.2.1) e
    have e1 := congrArg (fun o => o.2.2.2.2) e
    refine ⟨fun _ _ => ?_, fun _ h => absurd h (by decide), ?_, ?_⟩
    · refine Eq.mpr (congrArg _ e0) ?_
      exact filled_A c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) (ms0_8 (⟨0, hn⟩ : Fin cfg0.N)) (hs0_8 (⟨0, hn⟩ : Fin cfg0.N)) (ms0_9 (⟨0, hn⟩ : Fin cfg0.N)) (hs0_9 (⟨0, hn⟩ : Fin cfg0.N)) (ms0_10 (⟨0, hn⟩ : Fin cfg0.N)) (hs0_10 (⟨0, hn⟩ : Fin cfg0.N)) (ms0_11 (⟨0, hn⟩ : Fin cfg0.N)) (hs0_11 (⟨0, hn⟩ : Fin cfg0.N)) scM0_0 (Memref.isWhole_whole _) scM0_1 (Memref.isWhole_whole _) scM0_2 (Memref.isWhole_whole _) _ _ _ (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) (iblk m c 4 (⟨0, hn⟩ : Fin cfg0.N)) (iblk m c 5 (⟨0, hn⟩ : Fin cfg0.N)) (iblk m c 6 (⟨0, hn⟩ : Fin cfg0.N)) (iblk m c 7 (⟨0, hn⟩ : Fin cfg0.N)) (iblk m c 8 (⟨0, hn⟩ : Fin cfg0.N)) (rowsOf (B.row ⟨0, hn⟩)) ((flag_iff ⟨0, hn⟩).mpr rfl) rfl
    · refine Eq.mpr (congrArg _ e0) ?_
      exact clean_dst_A c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) (ms0_8 (⟨0, hn⟩ : Fin cfg0.N)) (hs0_8 (⟨0, hn⟩ : Fin cfg0.N)) (ms0_9 (⟨0, hn⟩ : Fin cfg0.N)) (hs0_9 (⟨0, hn⟩ : Fin cfg0.N)) (ms0_10 (⟨0, hn⟩ : Fin cfg0.N)) (hs0_10 (⟨0, hn⟩ : Fin cfg0.N)) (ms0_11 (⟨0, hn⟩ : Fin cfg0.N)) (hs0_11 (⟨0, hn⟩ : Fin cfg0.N)) scM0_0 (Memref.isWhole_whole _) scM0_1 (Memref.isWhole_whole _) scM0_2 (Memref.isWhole_whole _) _ _ _ (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) (iblk m c 4 (⟨0, hn⟩ : Fin cfg0.N)) (iblk m c 5 (⟨0, hn⟩ : Fin cfg0.N)) (iblk m c 6 (⟨0, hn⟩ : Fin cfg0.N)) (iblk m c 7 (⟨0, hn⟩ : Fin cfg0.N)) (iblk m c 8 (⟨0, hn⟩ : Fin cfg0.N))
    · refine Eq.mpr (congrArg _ e1) ?_
      exact clean_src_A c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) (ms0_7 (⟨0, hn⟩ : Fin cfg0.N)) (hs0_7 (⟨0, hn⟩ : Fin cfg0.N)) (ms0_8 (⟨0, hn⟩ : Fin cfg0.N)) (hs0_8 (⟨0, hn⟩ : Fin cfg0.N)) (ms0_9 (⟨0, hn⟩ : Fin cfg0.N)) (hs0_9 (⟨0, hn⟩ : Fin cfg0.N)) (ms0_10 (⟨0, hn⟩ : Fin cfg0.N)) (hs0_10 (⟨0, hn⟩ : Fin cfg0.N)) (ms0_11 (⟨0, hn⟩ : Fin cfg0.N)) (hs0_11 (⟨0, hn⟩ : Fin cfg0.N)) scM0_0 (Memref.isWhole_whole _) scM0_1 (Memref.isWhole_whole _) scM0_2 (Memref.isWhole_whole _) _ _ _ (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) (iblk m c 4 (⟨0, hn⟩ : Fin cfg0.N)) (iblk m c 5 (⟨0, hn⟩ : Fin cfg0.N)) (iblk m c 6 (⟨0, hn⟩ : Fin cfg0.N)) (iblk m c 7 (⟨0, hn⟩ : Fin cfg0.N)) (iblk m c 8 (⟨0, hn⟩ : Fin cfg0.N))
  | succ n ih =>
    intro hn
    have H := ih (Nat.lt_of_succ_lt hn)
    have hN : n + 1 < 529 := point_lt ⟨n + 1, hn⟩
    have nx := next ⟨n + 1, hn⟩ (Nat.succ_pos n)
    have nx' : ∀ S, Filled I (img n) (blk n) S → n + 1 < 528 → (flag (grid0.coords ⟨n + 1, hn⟩) = 1#1 ∧ (blk (n + 1)).val = 0)
        ∨ (flag (grid0.coords ⟨n + 1, hn⟩) ≠ 1#1 ∧ img (n + 1) = img n ∧ (blk (n + 1)).val = (blk n).val + 1 ∧ Filled I (img n) (blk n) S) := by
      intro S hS hlt
      rcases nx with ⟨hf, -⟩ | ⟨hf, h1, h2⟩
      · refine Or.inl ⟨hf, ?_⟩
        have := (flag_iff ⟨n + 1, hn⟩).mp hf
        show min (n + 1) 527 % 44 = 0
        have h0 : (n + 1) % 44 = 0 := this
        omega
      · exact Or.inr ⟨hf, h1, h2, hS⟩
    have h0 : ¬(n + 1) % 529 = 0 := by omega
    by_cases h1 : (n + 1) % 2 = 0
    · have e := outsAt0_C m c ⟨n + 1, hn⟩ h0 h1 (by show ¬(n + 1) % 2 = 1; omega)
      have e0 := congrArg (fun o => o.2.2.2.1) e
      have e1 := congrArg (fun o => o.2.2.2.2) e
      refine ⟨fun hlt _ => ?_, fun _ h => absurd h (by omega), ?_, ?_⟩
      · refine Eq.mpr (congrArg _ e0) ?_
        exact filled_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) (ms0_9 (⟨n + 1, hn⟩ : Fin cfg0.N)) (hs0_9 (⟨n + 1, hn⟩ : Fin cfg0.N)) (ms0_10 (⟨n + 1, hn⟩ : Fin cfg0.N)) (hs0_10 (⟨n + 1, hn⟩ : Fin cfg0.N)) (ms0_11 (⟨n + 1, hn⟩ : Fin cfg0.N)) (hs0_11 (⟨n + 1, hn⟩ : Fin cfg0.N)) scM0_0 (Memref.isWhole_whole _) scM0_1 (Memref.isWhole_whole _) scM0_2 (Memref.isWhole_whole _) _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (iblk m c 6 (⟨n + 1, hn⟩ : Fin cfg0.N)) (iblk m c 7 (⟨n + 1, hn⟩ : Fin cfg0.N)) (iblk m c 8 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2 (rowsOf (B.row ⟨n + 1, hn⟩)) H.clean0 (nx' _ (H.odd (by omega) (by omega)) hlt)
      · refine Eq.mpr (congrArg _ e0) ?_
        exact clean_dst_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) (ms0_9 (⟨n + 1, hn⟩ : Fin cfg0.N)) (hs0_9 (⟨n + 1, hn⟩ : Fin cfg0.N)) (ms0_10 (⟨n + 1, hn⟩ : Fin cfg0.N)) (hs0_10 (⟨n + 1, hn⟩ : Fin cfg0.N)) (ms0_11 (⟨n + 1, hn⟩ : Fin cfg0.N)) (hs0_11 (⟨n + 1, hn⟩ : Fin cfg0.N)) scM0_0 (Memref.isWhole_whole _) scM0_1 (Memref.isWhole_whole _) scM0_2 (Memref.isWhole_whole _) _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (iblk m c 6 (⟨n + 1, hn⟩ : Fin cfg0.N)) (iblk m c 7 (⟨n + 1, hn⟩ : Fin cfg0.N)) (iblk m c 8 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2 H.clean0
      · refine Eq.mpr (congrArg _ e1) ?_
        exact clean_src_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) (ms0_9 (⟨n + 1, hn⟩ : Fin cfg0.N)) (hs0_9 (⟨n + 1, hn⟩ : Fin cfg0.N)) (ms0_10 (⟨n + 1, hn⟩ : Fin cfg0.N)) (hs0_10 (⟨n + 1, hn⟩ : Fin cfg0.N)) (ms0_11 (⟨n + 1, hn⟩ : Fin cfg0.N)) (hs0_11 (⟨n + 1, hn⟩ : Fin cfg0.N)) scM0_0 (Memref.isWhole_whole _) scM0_1 (Memref.isWhole_whole _) scM0_2 (Memref.isWhole_whole _) _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (iblk m c 6 (⟨n + 1, hn⟩ : Fin cfg0.N)) (iblk m c 7 (⟨n + 1, hn⟩ : Fin cfg0.N)) (iblk m c 8 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2 H.clean1
    · have h2 : (n + 1) % 2 = 1 := by omega
      have e := outsAt0_B m c ⟨n + 1, hn⟩ h0 h1 h2
      have e0 := congrArg (fun o => o.2.2.2.1) e
      have e1 := congrArg (fun o => o.2.2.2.2) e
      refine ⟨fun _ h => absurd h h1, fun hlt _ => ?_, ?_, ?_⟩
      · refine Eq.mpr (congrArg _ e1) ?_
        exact filled_B c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) (ms0_9 (⟨n + 1, hn⟩ : Fin cfg0.N)) (hs0_9 (⟨n + 1, hn⟩ : Fin cfg0.N)) (ms0_10 (⟨n + 1, hn⟩ : Fin cfg0.N)) (hs0_10 (⟨n + 1, hn⟩ : Fin cfg0.N)) (ms0_11 (⟨n + 1, hn⟩ : Fin cfg0.N)) (hs0_11 (⟨n + 1, hn⟩ : Fin cfg0.N)) scM0_0 (Memref.isWhole_whole _) scM0_1 (Memref.isWhole_whole _) scM0_2 (Memref.isWhole_whole _) _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (iblk m c 6 (⟨n + 1, hn⟩ : Fin cfg0.N)) (iblk m c 7 (⟨n + 1, hn⟩ : Fin cfg0.N)) (iblk m c 8 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2 (rowsOf (B.row ⟨n + 1, hn⟩)) H.clean1 (nx' _ (H.even (by omega) (by omega)) hlt)
      · refine Eq.mpr (congrArg _ e0) ?_
        exact clean_src_B c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) (ms0_9 (⟨n + 1, hn⟩ : Fin cfg0.N)) (hs0_9 (⟨n + 1, hn⟩ : Fin cfg0.N)) (ms0_10 (⟨n + 1, hn⟩ : Fin cfg0.N)) (hs0_10 (⟨n + 1, hn⟩ : Fin cfg0.N)) (ms0_11 (⟨n + 1, hn⟩ : Fin cfg0.N)) (hs0_11 (⟨n + 1, hn⟩ : Fin cfg0.N)) scM0_0 (Memref.isWhole_whole _) scM0_1 (Memref.isWhole_whole _) scM0_2 (Memref.isWhole_whole _) _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (iblk m c 6 (⟨n + 1, hn⟩ : Fin cfg0.N)) (iblk m c 7 (⟨n + 1, hn⟩ : Fin cfg0.N)) (iblk m c 8 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2 H.clean0
      · refine Eq.mpr (congrArg _ e1) ?_
        exact clean_dst_B c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) (ms0_9 (⟨n + 1, hn⟩ : Fin cfg0.N)) (hs0_9 (⟨n + 1, hn⟩ : Fin cfg0.N)) (ms0_10 (⟨n + 1, hn⟩ : Fin cfg0.N)) (hs0_10 (⟨n + 1, hn⟩ : Fin cfg0.N)) (ms0_11 (⟨n + 1, hn⟩ : Fin cfg0.N)) (hs0_11 (⟨n + 1, hn⟩ : Fin cfg0.N)) scM0_0 (Memref.isWhole_whole _) scM0_1 (Memref.isWhole_whole _) scM0_2 (Memref.isWhole_whole _) _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) (iblk m c 6 (⟨n + 1, hn⟩ : Fin cfg0.N)) (iblk m c 7 (⟨n + 1, hn⟩ : Fin cfg0.N)) (iblk m c 8 (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2 H.clean1

include B in
/-- A point's codes. -/
theorem point_q (t : Fin cfg0.N) (r : Fin 4) (w : Fin 304) (d : Fin 256) :
    (outsAt0 m c t.val t.isLt).2.1 (ix4 0 r w d) = I.code (img t.val) ⟨4 * (blk t.val).val + r.val, by omega⟩ w d := by
  have ht := point_lt t
  by_cases h0 : t.val % 529 = 0
  · refine (congrFun (congrArg (fun o => o.2.1) (outsAt0_A m c t h0 (by omega) (by omega))) _).trans ?_
    exact block_q_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) _ _ _ (iblk m c 0 t) (iblk m c 1 t) (iblk m c 2 t) (iblk m c 3 t) (iblk m c 4 t) (iblk m c 5 t) (iblk m c 6 t) (iblk m c 7 t) (iblk m c 8 t) (rowsOf (B.row t)) r w d
  · by_cases h1 : t.val % 2 = 0
    · refine (congrFun (congrArg (fun o => o.2.1) (outsAt0_C m c t h0 h1 (by omega))) _).trans ?_
      exact block_q_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) _ _ _ (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (rowsOf (B.row t)) r w d
    · refine (congrFun (congrArg (fun o => o.2.1) (outsAt0_B m c t h0 h1 (by omega))) _).trans ?_
      exact block_q_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) _ _ _ (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (rowsOf (B.row t)) r w d

include B in
/-- A point's scales. -/
theorem point_sc (t : Fin cfg0.N) (r : Fin 4) (g : Fin 8) (w : Fin 304) :
    (outsAt0 m c t.val t.isLt).2.2.1 (ix4 0 r g w) = I.scale (img t.val) ⟨4 * (blk t.val).val + r.val, by omega⟩ w g := by
  have ht := point_lt t
  by_cases h0 : t.val % 529 = 0
  · refine (congrFun (congrArg (fun o => o.2.2.1) (outsAt0_A m c t h0 (by omega) (by omega))) _).trans ?_
    exact block_sc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) _ _ _ (iblk m c 0 t) (iblk m c 1 t) (iblk m c 2 t) (iblk m c 3 t) (iblk m c 4 t) (iblk m c 5 t) (iblk m c 6 t) (iblk m c 7 t) (iblk m c 8 t) (rowsOf (B.row t)) r g w
  · by_cases h1 : t.val % 2 = 0
    · refine (congrFun (congrArg (fun o => o.2.2.1) (outsAt0_C m c t h0 h1 (by omega))) _).trans ?_
      exact block_sc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) _ _ _ (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (rowsOf (B.row t)) r g w
    · refine (congrFun (congrArg (fun o => o.2.2.1) (outsAt0_B m c t h0 h1 (by omega))) _).trans ?_
      exact block_sc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) _ _ _ (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (rowsOf (B.row t)) r g w

include B in
/-- A point's convolution, of the block before. -/
theorem point_p (t : Fin cfg0.N) (h : 0 < t.val) (r : Fin 4) (w : Fin 304) (d : Fin 256) :
    (outsAt0 m c t.val t.isLt).1 (ix4 0 r w d) = I.out (img (t.val - 1)) ⟨4 * (blk (t.val - 1)).val + r.val, by omega⟩ w d := by
  have ht := point_lt t
  have h0 : ¬t.val % 529 = 0 := by omega
  have H := held B (t.val - 1) (Nat.lt_of_le_of_lt (Nat.sub_le _ _) t.isLt)
  have nx := next t h
  by_cases h1 : t.val % 2 = 0
  · refine (congrFun (congrArg (fun o => o.1) (outsAt0_C m c t h0 h1 (by omega))) _).trans ?_
    exact block_p_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) _ _ _ (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (B.out t) (rowsOf (B.row t)) H.clean0 (H.odd (by omega) (by omega)) nx r w d
  · refine (congrFun (congrArg (fun o => o.1) (outsAt0_B m c t h0 h1 (by omega))) _).trans ?_
    exact block_p_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) _ _ _ (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (B.out t) (rowsOf (B.row t)) H.clean1 (H.even (by omega) (by omega)) nx r w d

end Cert.Level2.Step

end
-- ==== Proof.Host.lean ====
/- What the points of the grid load: the arguments' blocks, with the columns in the order that the kernel keeps them in. -/
module

public import proofs.«01_k».proof.Proof.Grid

@[expose] public section

noncomputable section

namespace Cert.Level2.Step

open Idealize.ShloMosaic Idealize.ShloMosaic.TcCoe Idealize.SL.Sem Cert.KernelIdeal Cert.KernelIdeal.Gen

variable (m : (ℓ : Loc nD τ sig) → Buf (Elt Ideal) ℓ) (c : Dev nD)

/-- The arguments, as the kernel's run finds them. -/
abbrev arg0 : Vec Ideal S12x176x304x96 .fp8e4m3 := m ((c : Thread nD τ).loc main_arg0)
abbrev arg1 : Vec Ideal S1 .f32 := m ((c : Thread nD τ).loc main_arg1)
abbrev arg2 : Vec Ideal S12x88x152x256 .f32 := m ((c : Thread nD τ).loc main_arg2)
abbrev arg3 : Vec Ideal S96x256 .fp8e4m3 := m ((c : Thread nD τ).loc main_arg3)
abbrev arg4 : Vec Ideal S256 .f32 := m ((c : Thread nD τ).loc main_arg4)
abbrev arg5 : Vec Ideal S256 .f32 := m ((c : Thread nD τ).loc main_arg5)
abbrev arg6 : Vec Ideal S3x3x256x256 .fp8e4m3 := m ((c : Thread nD τ).loc main_arg6)
abbrev arg7 : Vec Ideal S256 .f32 := m ((c : Thread nD τ).loc main_arg7)
abbrev arg8 : Vec Ideal S256 .f32 := m ((c : Thread nD τ).loc main_arg8)

/-- The arguments by their coordinates. -/
def inputs : Inputs where
  c b h w k := arg0 m c (ix4 b h w k)
  cs := arg1 m c (ix1 0)
  m3 b h w d := arg2 m c (ix4 b h w d)
  wl k d := arg3 m c (ix2 k d)
  sl d := arg4 m c (ix1 d)
  bl d := arg5 m c (ix1 d)
  wo dy dx k d := arg6 m c (ix4 dy dx k d)
  so d := arg7 m c (ix1 d)
  bo d := arg8 m c (ix1 d)

/-- The host's order of the columns is the kernel's. -/
theorem orig_eq : ∀ p : Fin 256, (⟨p.val % 8 * 32 + p.val / 128 * 16 + p.val / 8 % 16, by omega⟩ : Fin 256) = orig p := by decide +kernel

theorem V_v2 : V m c main_v2 = shapeCast S12x88x152x256 (transpose S12x88x152x2x16x8 [0, 1, 2, 4, 5, 3]
    (shapeCast S12x88x152x8x2x16 (arg2 m c) shapeCasts_S12x88x152x256_S12x88x152x8x2x16)
    transposes_S12x88x152x8x2x16_S12x88x152x2x16x8_0_1_2_4_5_3) shapeCasts_S12x88x152x2x16x8_S12x88x152x256 := by
  unfold V
  after_results <;> rfl

theorem v2_at (b : Fin 12) (h : Fin 88) (w : Fin 152) (p : Fin 256) :
    (V m c main_v2 : Vec Ideal S12x88x152x256 .f32) (ix4 b h w p) = arg2 m c (ix4 b h w (orig p)) := by
  rw [V_v2]
  pointwise []
  exact congrArg (fun x => arg2 m c (ix4 b h w x)) (orig_eq p)

theorem V_v5 : V m c main_v5 = shapeCast S96x256 (transpose S96x2x16x8 [0, 2, 3, 1]
    (shapeCast S96x8x2x16 (arg3 m c) shapeCasts_S96x256_S96x8x2x16) transposes_S96x8x2x16_S96x2x16x8_0_2_3_1) shapeCasts_S96x2x16x8_S96x256 := by
  unfold V
  after_results <;> rfl

theorem v5_at (k : Fin 96) (p : Fin 256) : (V m c main_v5 : Vec Ideal S96x256 .fp8e4m3) (ix2 k p) = arg3 m c (ix2 k (orig p)) := by
  rw [V_v5]
  pointwise []
  exact congrArg (fun x => arg3 m c (ix2 k x)) (orig_eq p)

theorem V_v9 : V m c main_v9 = shapeCast S1x256 (shapeCast S256 (transpose S2x16x8 [1, 2, 0]
    (shapeCast S8x2x16 (arg4 m c) shapeCasts_S256_S8x2x16) transposes_S8x2x16_S2x16x8_1_2_0) shapeCasts_S2x16x8_S256) shapeCasts_S256_S1x256 := by
  unfold V
  after_results <;> rfl

theorem v9_at (p : Fin 256) : (V m c main_v9 : Vec Ideal S1x256 .f32) (ix2 0 p) = arg4 m c (ix1 (orig p)) := by
  rw [V_v9]
  pointwise []
  exact congrArg (fun x => arg4 m c (ix1 x)) (orig_eq p)

theorem V_v13 : V m c main_v13 = shapeCast S1x256 (shapeCast S256 (transpose S2x16x8 [1, 2, 0]
    (shapeCast S8x2x16 (arg5 m c) shapeCasts_S256_S8x2x16) transposes_S8x2x16_S2x16x8_1_2_0) shapeCasts_S2x16x8_S256) shapeCasts_S256_S1x256 := by
  unfold V
  after_results <;> rfl

theorem v13_at (p : Fin 256) : (V m c main_v13 : Vec Ideal S1x256 .f32) (ix2 0 p) = arg5 m c (ix1 (orig p)) := by
  rw [V_v13]
  pointwise []
  exact congrArg (fun x => arg5 m c (ix1 x)) (orig_eq p)

theorem V_v19 : V m c main_v19 = transpose S9x256x256 [0, 2, 1] (shapeCast S9x256x256 (transpose S9x256x2x16x8 [0, 1, 3, 4, 2]
    (shapeCast S9x256x8x2x16 (transpose S9x256x256 [0, 2, 1] (shapeCast S9x256x256 (arg6 m c) shapeCasts_S3x3x256x256_S9x256x256)
      transposes_S9x256x256_S9x256x256_0_2_1) shapeCasts_S9x256x256_S9x256x8x2x16) transposes_S9x256x8x2x16_S9x256x2x16x8_0_1_3_4_2)
    shapeCasts_S9x256x2x16x8_S9x256x256) transposes_S9x256x256_S9x256x256_0_2_1 := by
  unfold V
  after_results <;> rfl

theorem v19_at (dy dx : Fin 3) (p d : Fin 256) :
    (V m c main_v19 : Vec Ideal S9x256x256 .fp8e4m3) (ix3 ⟨3 * dy.val + dx.val, by omega⟩ p d) = arg6 m c (ix4 dy dx (orig p) d) := by
  rw [V_v19]
  have e : ∀ k : Fin 9, transpose S9x256x256 [0, 2, 1] (shapeCast S9x256x256 (transpose S9x256x2x16x8 [0, 1, 3, 4, 2]
      (shapeCast S9x256x8x2x16 (transpose S9x256x256 [0, 2, 1] (shapeCast S9x256x256 (arg6 m c) shapeCasts_S3x3x256x256_S9x256x256)
        transposes_S9x256x256_S9x256x256_0_2_1) shapeCasts_S9x256x256_S9x256x8x2x16) transposes_S9x256x8x2x16_S9x256x2x16x8_0_1_3_4_2)
      shapeCasts_S9x256x2x16x8_S9x256x256) transposes_S9x256x256_S9x256x256_0_2_1 (ix3 k p d)
      = arg6 m c (ix4 ⟨k.val / 3, by omega⟩ ⟨k.val % 3, by omega⟩ (orig p) d) := by
    intro k
    pointwise []
    exact congrArg (fun x => arg6 m c (ix4 _ _ x d)) (orig_eq p)
  rw [e]
  exact congrArg₂ (fun x y => arg6 m c (ix4 x y (orig p) d)) (Fin.ext (by show (3 * dy.val + dx.val) / 3 = dy.val; omega))
    (Fin.ext (by show (3 * dy.val + dx.val) % 3 = dx.val; omega))

theorem V_v20 : V m c main_v20 = transpose S12x176x96x304 [0, 1, 3, 2] (arg0 m c) transposes_S12x176x304x96_S12x176x96x304_0_1_3_2 := by
  unfold V
  after_results <;> rfl

theorem v20_at (b : Fin 12) (h : Fin 176) (k : Fin 96) (w : Fin 304) :
    (V m c main_v20 : Vec Ideal S12x176x96x304 .fp8e4m3) (ix4 b h k w) = arg0 m c (ix4 b h w k) := by
  rw [V_v20]
  pointwise []

theorem V_v21 : V m c main_v21 = shapeCast S1x256 (arg7 m c) shapeCasts_S256_S1x256 := by
  unfold V
  after_results <;> rfl

theorem v21_at (d : Fin 256) : (V m c main_v21 : Vec Ideal S1x256 .f32) (ix2 0 d) = arg7 m c (ix1 d) := by
  rw [V_v21]
  pointwise []

theorem V_v22 : V m c main_v22 = shapeCast S1x256 (arg8 m c) shapeCasts_S256_S1x256 := by
  unfold V
  after_results <;> rfl

theorem v22_at (d : Fin 256) : (V m c main_v22 : Vec Ideal S1x256 .f32) (ix2 0 d) = arg8 m c (ix1 d) := by
  rw [V_v22]
  pointwise []

/-- The blocks of a point, by their index maps. -/
theorem index1 : ∀ t : Fin cfg0.N, cc0_transform_1 (grid0.coords t) = ![(img t.val).val, (blk t.val).val, 0, 0] :=
  (by decide +kernel : ∀ t : Fin grid0.N, cc0_transform_1 (grid0.coords t) = ![(img t.val).val, (blk t.val).val, 0, 0])

theorem index2 : ∀ t : Fin cfg0.N, cc0_transform_2 (grid0.coords t) = ![(img t.val).val, (blk t.val).val, 0, 0] :=
  (by decide +kernel : ∀ t : Fin grid0.N, cc0_transform_2 (grid0.coords t) = ![(img t.val).val, (blk t.val).val, 0, 0])

theorem iblk1_at (t : Fin cfg0.N) (r : Fin 4) (k : Fin 96) (w : Fin 304) : (iblk m c 1 t : Vec Ideal S1x4x96x304 .fp8e4m3) (ix4 0 r k w)
    = (V m c main_v20 : Vec Ideal S12x176x96x304 .fp8e4m3) (ix4 (img t.val) ⟨4 * (blk t.val).val + r.val, by omega⟩ k w) := by
  refine congrArg (V m c main_v20 : Vec Ideal S12x176x96x304 .fp8e4m3) (funext fun a => Fin.ext ?_)
  fin_cases a
  · show cc0_transform_1 (grid0.coords t) 0 * 1 + 1 * 0 = (img t.val).val
    rw [index1]; show (img t.val).val * 1 + _ = _; omega
  · show cc0_transform_1 (grid0.coords t) 1 * 4 + 1 * r.val = 4 * (blk t.val).val + r.val
    rw [index1]; show (blk t.val).val * 4 + _ = _; omega
  · show cc0_transform_1 (grid0.coords t) 2 * 96 + 1 * k.val = k.val
    rw [index1]; show 0 * 96 + _ = _; omega
  · show cc0_transform_1 (grid0.coords t) 3 * 304 + 1 * w.val = w.val
    rw [index1]; show 0 * 304 + _ = _; omega

theorem iblk2_at (t : Fin cfg0.N) (r : Fin 2) (w : Fin 152) (p : Fin 256) : (iblk m c 2 t : Vec Ideal S1x2x152x256 .f32) (ix4 0 r w p)
    = (V m c main_v2 : Vec Ideal S12x88x152x256 .f32) (ix4 (img t.val) ⟨2 * (blk t.val).val + r.val, by omega⟩ w p) := by
  refine congrArg (V m c main_v2 : Vec Ideal S12x88x152x256 .f32) (funext fun a => Fin.ext ?_)
  fin_cases a
  · show cc0_transform_2 (grid0.coords t) 0 * 1 + 1 * 0 = (img t.val).val
    rw [index2]; show (img t.val).val * 1 + _ = _; omega
  · show cc0_transform_2 (grid0.coords t) 1 * 2 + 1 * r.val = 2 * (blk t.val).val + r.val
    rw [index2]; show (blk t.val).val * 2 + _ = _; omega
  · show cc0_transform_2 (grid0.coords t) 2 * 152 + 1 * w.val = w.val
    rw [index2]; show 0 * 152 + _ = _; omega
  · show cc0_transform_2 (grid0.coords t) 3 * 256 + 1 * p.val = p.val
    rw [index2]; show 0 * 256 + _ = _; omega

theorem iblk0_at (t : Fin cfg0.N) : (iblk m c 0 t : Vec Ideal S1 .f32) (ix1 0) = (V m c main_arg1 : Vec Ideal S1 .f32) (ix1 0) := by
  refine congrArg (V m c main_arg1 : Vec Ideal S1 .f32) (funext fun a => Fin.ext ?_)
  fin_cases a
  rfl

theorem iblk3_at (t : Fin cfg0.N) (k : Fin 96) (p : Fin 256) :
    (iblk m c 3 t : Vec Ideal S96x256 .fp8e4m3) (ix2 k p) = (V m c main_v5 : Vec Ideal S96x256 .fp8e4m3) (ix2 k p) := by
  refine congrArg (V m c main_v5 : Vec Ideal S96x256 .fp8e4m3) (funext fun a => Fin.ext ?_)
  fin_cases a
  · show 0 * 96 + 1 * k.val = k.val; omega
  · show 0 * 256 + 1 * p.val = p.val; omega

theorem iblk4_at (t : Fin cfg0.N) (p : Fin 256) : (iblk m c 4 t : Vec Ideal S1x256 .f32) (ix2 0 p) = (V m c main_v9 : Vec Ideal S1x256 .f32) (ix2 0 p) := by
  refine congrArg (V m c main_v9 : Vec Ideal S1x256 .f32) (funext fun a => Fin.ext ?_)
  fin_cases a
  · rfl
  · show 0 * 256 + 1 * p.val = p.val; omega

theorem iblk5_at (t : Fin cfg0.N) (p : Fin 256) : (iblk m c 5 t : Vec Ideal S1x256 .f32) (ix2 0 p) = (V m c main_v13 : Vec Ideal S1x256 .f32) (ix2 0 p) := by
  refine congrArg (V m c main_v13 : Vec Ideal S1x256 .f32) (funext fun a => Fin.ext ?_)
  fin_cases a
  · rfl
  · show 0 * 256 + 1 * p.val = p.val; omega

theorem iblk6_at (t : Fin cfg0.N) (k : Fin 9) (p d : Fin 256) :
    (iblk m c 6 t : Vec Ideal S9x256x256 .fp8e4m3) (ix3 k p d) = (V m c main_v19 : Vec Ideal S9x256x256 .fp8e4m3) (ix3 k p d) := by
  refine congrArg (V m c main_v19 : Vec Ideal S9x256x256 .fp8e4m3) (funext fun a => Fin.ext ?_)
  fin_cases a
  · show 0 * 9 + 1 * k.val = k.val; omega
  · show 0 * 256 + 1 * p.val = p.val; omega
  · show 0 * 256 + 1 * d.val = d.val; omega

theorem iblk7_at (t : Fin cfg0.N) (p : Fin 256) : (iblk m c 7 t : Vec Ideal S1x256 .f32) (ix2 0 p) = (V m c main_v21 : Vec Ideal S1x256 .f32) (ix2 0 p) := by
  refine congrArg (V m c main_v21 : Vec Ideal S1x256 .f32) (funext fun a => Fin.ext ?_)
  fin_cases a
  · rfl
  · show 0 * 256 + 1 * p.val = p.val; omega

theorem iblk8_at (t : Fin cfg0.N) (p : Fin 256) : (iblk m c 8 t : Vec Ideal S1x256 .f32) (ix2 0 p) = (V m c main_v22 : Vec Ideal S1x256 .f32) (ix2 0 p) := by
  refine congrArg (V m c main_v22 : Vec Ideal S1x256 .f32) (funext fun a => Fin.ext ?_)
  fin_cases a
  · rfl
  · show 0 * 256 + 1 * p.val = p.val; omega

/-- The blocks that the points load are the arguments'. -/
theorem blocks : Blocks m c (inputs m c) where
  row t :=
    { cs := (iblk0_at m c t).trans (congrFun (V_main_arg1 m c) (ix1 0))
      c := fun r k w => (iblk1_at m c t r k w).trans (v20_at m c _ _ k w)
      m3 := fun r w p => (iblk2_at m c t r w p).trans (v2_at m c _ _ w p)
      wl := fun k p => (iblk3_at m c t k p).trans (v5_at m c k p)
      sl := fun p => (iblk4_at m c t p).trans (v9_at m c p)
      bl := fun p => (iblk5_at m c t p).trans (v13_at m c p) }
  out t :=
    { wo := fun dy dx p d => (iblk6_at m c t _ p d).trans (v19_at m c dy dx p d)
      so := fun d => (iblk7_at m c t d).trans (v21_at m c d)
      bo := fun d => (iblk8_at m c t d).trans (v22_at m c d) }

end Cert.Level2.Step

end
-- ==== Proof.Arrays.lean ====
/- The three arrays that the kernel leaves: every entry, from the block of the last point that writes it. -/
module

public import proofs.«01_k».proof.Proof.Host
public import proofs.«01_k».proof.Proof.Gen.KernelIdeal.Value

@[expose] public section

noncomputable section

namespace Cert.Level2

open Idealize.ShloMosaic Cert.KernelIdeal

/-- The three results as whole arrays. -/
def outArr (I : Inputs) : Vec Ideal S12x176x304x256 .bf16 := fun i => I.out (i 0) (i 1) (i 2) (i 3)
def codeArr (I : Inputs) : Vec Ideal S12x176x304x256 .fp8e4m3 := fun i => I.code (i 0) (i 1) (i 2) (i 3)
def scaleArr (I : Inputs) : Vec Ideal S12x176x8x304 .f32 := fun i => I.scale (i 0) (i 1) (i 3) (i 2)

theorem outArr_ix (I : Inputs) (b : Fin 12) (h : Fin 176) (w : Fin 304) (d : Fin 256) : outArr I (ix4 b h w d) = I.out b h w d := rfl
theorem codeArr_ix (I : Inputs) (b : Fin 12) (h : Fin 176) (w : Fin 304) (d : Fin 256) : codeArr I (ix4 b h w d) = I.code b h w d := rfl
theorem scaleArr_ix (I : Inputs) (b : Fin 12) (h : Fin 176) (g : Fin 8) (w : Fin 304) : scaleArr I (ix4 b h g w) = I.scale b h w g := rfl

end Cert.Level2

namespace Cert.Level2.Step

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

theorem flush9 : ∀ t : Fin cfg0.N, (cfg0.win 9).flush t = true ↔ 0 < t.val :=
  (by decide +kernel : ∀ t : Fin grid0.N, win0_9.flush t = true ↔ 0 < t.val)

theorem flush10 : ∀ t : Fin cfg0.N, (cfg0.win 10).flush t = true ↔ t.val ≠ 527 :=
  (by decide +kernel : ∀ t : Fin grid0.N, win0_10.flush t = true ↔ t.val ≠ 527)

theorem flush11 : ∀ t : Fin cfg0.N, (cfg0.win 11).flush t = true ↔ t.val ≠ 527 :=
  (by decide +kernel : ∀ t : Fin grid0.N, win0_11.flush t = true ↔ t.val ≠ 527)

theorem index9 : ∀ t : Fin cfg0.N, cc0_transform_9 (grid0.coords t) = ![(img (t.val - 1)).val, (blk (t.val - 1)).val, 0, 0] :=
  (by decide +kernel : ∀ t : Fin grid0.N, cc0_transform_9 (grid0.coords t) = ![(img (t.val - 1)).val, (blk (t.val - 1)).val, 0, 0])

/-- A block of an array, read at an index. -/
theorem read9 (t : Fin cfg0.N) (f : Vec Ideal S12x176x304x256 .bf16) : ∀ i, View.read (Elt Ideal) ((cfg0.win 9).blk t).view f i = f (((cfg0.win 9).blk t).view.emb i) :=
  fun _ => rfl

/-- A block that holds the specification's entries is the block of the whole array. -/
theorem cut9 (I : Inputs) (t : Fin cfg0.N) (X : Vec Ideal S1x4x304x256 .bf16)
    (hX : ∀ (r : Fin 4) (w : Fin 304) (d : Fin 256), X (ix4 0 r w d) = I.out (img (t.val - 1)) ⟨4 * (blk (t.val - 1)).val + r.val, by omega⟩ w d) :
    (cfg0.win 9).cut (grid0.coords t) X = View.read (Elt Ideal) ((cfg0.win 9).blk t).view (outArr I) := by
  funext i
  have h0 : (i 0).val < 1 := (i 0).isLt
  have h1 : (i 1).val < 4 := (i 1).isLt
  have h2 : (i 2).val < 304 := (i 2).isLt
  have h3 : (i 3).val < 256 := (i 3).isLt
  have e : (cfg0.win 9).cut (grid0.coords t) X i = X (ix4 0 ⟨(i 1).val, h1⟩ ⟨(i 2).val, h2⟩ ⟨(i 3).val, h3⟩) := by
    refine congrArg X (funext fun a => Fin.ext ?_)
    fin_cases a
    · exact Nat.lt_one_iff.mp h0
    · rfl
    · rfl
    · rfl
  have E : (ix4 (img (t.val - 1)) ⟨4 * (blk (t.val - 1)).val + (i 1).val, by omega⟩ ⟨(i 2).val, h2⟩ ⟨(i 3).val, h3⟩ : S12x176x304x256.Idx)
      = ((cfg0.win 9).blk t).view.emb i := by
    refine funext fun a => Fin.ext ?_
    fin_cases a
    · show (img (t.val - 1)).val = cc0_transform_9 (grid0.coords t) 0 * 1 + 1 * (i 0).val
      rw [index9]; show _ = (img (t.val - 1)).val * 1 + _; omega
    · show 4 * (blk (t.val - 1)).val + (i 1).val = cc0_transform_9 (grid0.coords t) 1 * 4 + 1 * (i 1).val
      rw [index9]; show _ = (blk (t.val - 1)).val * 4 + _; omega
    · show (i 2).val = cc0_transform_9 (grid0.coords t) 2 * 304 + 1 * (i 2).val
      rw [index9]; show _ = 0 * 304 + _; omega
    · show (i 3).val = cc0_transform_9 (grid0.coords t) 3 * 256 + 1 * (i 3).val
      rw [index9]; show _ = 0 * 256 + _; omega
  exact (e.trans (hX ⟨(i 1).val, h1⟩ ⟨(i 2).val, h2⟩ ⟨(i 3).val, h3⟩)).trans
    ((outArr_ix I _ _ _ _).symm.trans ((congrArg (outArr I) E).trans (read9 t (outArr I) i).symm))

/-- What a point writes back is its block of the whole array. -/
theorem flushed9_eq (t : Fin cfg0.N) (h : (cfg0.win 9).flush t = true) :
    (dats m 0 c).flushed 9 t = View.read (Elt Ideal) ((cfg0.win 9).blk t).view (outArr (inputs m c)) :=
  (flushed9 m c t).trans (cut9 (inputs m c) t _ (fun r w d => point_p (blocks m c) t ((flush9 t).mp h) r w d))

theorem mem9 (t : Fin cfg0.N) (i : S12x176x304x256.Idx) (h0 : (i 0).val = (img (t.val - 1)).val) (h1 : (i 1).val / 4 = (blk (t.val - 1)).val) :
    i ∈ ((cfg0.win 9).blk t).view.set := by
  show i ∈ ((View.whole main_v23_0).slice (win0_9.rect t)).set
  rw [View.set_slice_whole, Rect.mem_set_unit]
  have h2 : (i 2).val < 304 := (i 2).isLt
  have h3 : (i 3).val < 256 := (i 3).isLt
  intro a
  match a with
  | ⟨0, _⟩ =>
    show cc0_transform_9 (grid0.coords t) 0 * 1 ≤ (i 0).val ∧ (i 0).val < cc0_transform_9 (grid0.coords t) 0 * 1 + 1
    rw [index9]; show (img (t.val - 1)).val * 1 ≤ _ ∧ _ < (img (t.val - 1)).val * 1 + 1; omega
  | ⟨1, _⟩ =>
    show cc0_transform_9 (grid0.coords t) 1 * 4 ≤ (i 1).val ∧ (i 1).val < cc0_transform_9 (grid0.coords t) 1 * 4 + 4
    rw [index9]; show (blk (t.val - 1)).val * 4 ≤ _ ∧ _ < (blk (t.val - 1)).val * 4 + 4; omega
  | ⟨2, _⟩ =>
    show cc0_transform_9 (grid0.coords t) 2 * 304 ≤ (i 2).val ∧ (i 2).val < cc0_transform_9 (grid0.coords t) 2 * 304 + 304
    rw [index9]; show 0 * 304 ≤ _ ∧ _ < 0 * 304 + 304; omega
  | ⟨3, _⟩ =>
    show cc0_transform_9 (grid0.coords t) 3 * 256 ≤ (i 3).val ∧ (i 3).val < cc0_transform_9 (grid0.coords t) 3 * 256 + 256
    rw [index9]; show 0 * 256 ≤ _ ∧ _ < 0 * 256 + 256; omega

theorem cover9 (i : S12x176x304x256.Idx) : ∃ t : Fin cfg0.N, (cfg0.win 9).flush t = true ∧ i ∈ ((cfg0.win 9).blk t).view.set := by
  have hN : cfg0.N = 529 := N_0
  have h0 : (i 0).val < 12 := (i 0).isLt
  have h1 : (i 1).val < 176 := (i 1).isLt
  have ht : 44 * (i 0).val + (i 1).val / 4 + 1 < cfg0.N := by omega
  refine ⟨⟨44 * (i 0).val + (i 1).val / 4 + 1, ht⟩, (flush9 _).mpr (Nat.succ_pos _), mem9 _ i ?_ ?_⟩
  · show (i 0).val = min (44 * (i 0).val + (i 1).val / 4 + 1 - 1) 527 / 44; omega
  · show (i 1).val / 4 = min (44 * (i 0).val + (i 1).val / 4 + 1 - 1) 527 % 44; omega

/-- The first result is the convolution. -/
theorem array9 : (dats m 0 c).arrAt 9 cfg0.N = outArr (inputs m c) :=
  (dats m 0 c).arrAt_eq_of_cover 9 (outArr (inputs m c)) (flushed9_eq m c) cover9

theorem index10 : ∀ t : Fin cfg0.N, cc0_transform_10 (grid0.coords t) = ![(img t.val).val, (blk t.val).val, 0, 0] :=
  (by decide +kernel : ∀ t : Fin grid0.N, cc0_transform_10 (grid0.coords t) = ![(img t.val).val, (blk t.val).val, 0, 0])

/-- A block of an array, read at an index. -/
theorem read10 (t : Fin cfg0.N) (f : Vec Ideal S12x176x304x256 .fp8e4m3) : ∀ i, View.read (Elt Ideal) ((cfg0.win 10).blk t).view f i = f (((cfg0.win 10).blk t).view.emb i) :=
  fun _ => rfl

/-- A block that holds the specification's entries is the block of the whole array. -/
theorem cut10 (I : Inputs) (t : Fin cfg0.N) (X : Vec Ideal S1x4x304x256 .fp8e4m3)
    (hX : ∀ (r : Fin 4) (w : Fin 304) (d : Fin 256), X (ix4 0 r w d) = I.code (img t.val) ⟨4 * (blk t.val).val + r.val, by omega⟩ w d) :
    (cfg0.win 10).cut (grid0.coords t) X = View.read (Elt Ideal) ((cfg0.win 10).blk t).view (codeArr I) := by
  funext i
  have h0 : (i 0).val < 1 := (i 0).isLt
  have h1 : (i 1).val < 4 := (i 1).isLt
  have h2 : (i 2).val < 304 := (i 2).isLt
  have h3 : (i 3).val < 256 := (i 3).isLt
  have e : (cfg0.win 10).cut (grid0.coords t) X i = X (ix4 0 ⟨(i 1).val, h1⟩ ⟨(i 2).val, h2⟩ ⟨(i 3).val, h3⟩) := by
    refine congrArg X (funext fun a => Fin.ext ?_)
    fin_cases a
    · exact Nat.lt_one_iff.mp h0
    · rfl
    · rfl
    · rfl
  have E : (ix4 (img t.val) ⟨4 * (blk t.val).val + (i 1).val, by omega⟩ ⟨(i 2).val, h2⟩ ⟨(i 3).val, h3⟩ : S12x176x304x256.Idx)
      = ((cfg0.win 10).blk t).view.emb i := by
    refine funext fun a => Fin.ext ?_
    fin_cases a
    · show (img t.val).val = cc0_transform_10 (grid0.coords t) 0 * 1 + 1 * (i 0).val
      rw [index10]; show _ = (img t.val).val * 1 + _; omega
    · show 4 * (blk t.val).val + (i 1).val = cc0_transform_10 (grid0.coords t) 1 * 4 + 1 * (i 1).val
      rw [index10]; show _ = (blk t.val).val * 4 + _; omega
    · show (i 2).val = cc0_transform_10 (grid0.coords t) 2 * 304 + 1 * (i 2).val
      rw [index10]; show _ = 0 * 304 + _; omega
    · show (i 3).val = cc0_transform_10 (grid0.coords t) 3 * 256 + 1 * (i 3).val
      rw [index10]; show _ = 0 * 256 + _; omega
  exact (e.trans (hX ⟨(i 1).val, h1⟩ ⟨(i 2).val, h2⟩ ⟨(i 3).val, h3⟩)).trans
    ((codeArr_ix I _ _ _ _).symm.trans ((congrArg (codeArr I) E).trans (read10 t (codeArr I) i).symm))

/-- What a point writes back is its block of the whole array. -/
theorem flushed10_eq (t : Fin cfg0.N) (h : (cfg0.win 10).flush t = true) :
    (dats m 0 c).flushed 10 t = View.read (Elt Ideal) ((cfg0.win 10).blk t).view (codeArr (inputs m c)) :=
  (flushed10 m c t).trans (cut10 (inputs m c) t _ (fun r w d => point_q (blocks m c) t r w d))

theorem mem10 (t : Fin cfg0.N) (i : S12x176x304x256.Idx) (h0 : (i 0).val = (img t.val).val) (h1 : (i 1).val / 4 = (blk t.val).val) :
    i ∈ ((cfg0.win 10).blk t).view.set := by
  show i ∈ ((View.whole main_v23_1).slice (win0_10.rect t)).set
  rw [View.set_slice_whole, Rect.mem_set_unit]
  have h2 : (i 2).val < 304 := (i 2).isLt
  have h3 : (i 3).val < 256 := (i 3).isLt
  intro a
  match a with
  | ⟨0, _⟩ =>
    show cc0_transform_10 (grid0.coords t) 0 * 1 ≤ (i 0).val ∧ (i 0).val < cc0_transform_10 (grid0.coords t) 0 * 1 + 1
    rw [index10]; show (img t.val).val * 1 ≤ _ ∧ _ < (img t.val).val * 1 + 1; omega
  | ⟨1, _⟩ =>
    show cc0_transform_10 (grid0.coords t) 1 * 4 ≤ (i 1).val ∧ (i 1).val < cc0_transform_10 (grid0.coords t) 1 * 4 + 4
    rw [index10]; show (blk t.val).val * 4 ≤ _ ∧ _ < (blk t.val).val * 4 + 4; omega
  | ⟨2, _⟩ =>
    show cc0_transform_10 (grid0.coords t) 2 * 304 ≤ (i 2).val ∧ (i 2).val < cc0_transform_10 (grid0.coords t) 2 * 304 + 304
    rw [index10]; show 0 * 304 ≤ _ ∧ _ < 0 * 304 + 304; omega
  | ⟨3, _⟩ =>
    show cc0_transform_10 (grid0.coords t) 3 * 256 ≤ (i 3).val ∧ (i 3).val < cc0_transform_10 (grid0.coords t) 3 * 256 + 256
    rw [index10]; show 0 * 256 ≤ _ ∧ _ < 0 * 256 + 256; omega

theorem cover10 (i : S12x176x304x256.Idx) : ∃ t : Fin cfg0.N, (cfg0.win 10).flush t = true ∧ i ∈ ((cfg0.win 10).blk t).view.set := by
  have hN : cfg0.N = 529 := N_0
  have h0 : (i 0).val < 12 := (i 0).isLt
  have h1 : (i 1).val < 176 := (i 1).isLt
  by_cases hl : 44 * (i 0).val + (i 1).val / 4 = 527
  · have ht : 528 < cfg0.N := by omega
    refine ⟨⟨528, ht⟩, (flush10 _).mpr (by show 528 ≠ 527; decide), mem10 _ i ?_ ?_⟩
    · show (i 0).val = min 528 527 / 44; omega
    · show (i 1).val / 4 = min 528 527 % 44; omega
  · have ht : 44 * (i 0).val + (i 1).val / 4 < cfg0.N := by omega
    refine ⟨⟨44 * (i 0).val + (i 1).val / 4, ht⟩, (flush10 _).mpr hl, mem10 _ i ?_ ?_⟩
    · show (i 0).val = min (44 * (i 0).val + (i 1).val / 4) 527 / 44; omega
    · show (i 1).val / 4 = min (44 * (i 0).val + (i 1).val / 4) 527 % 44; omega

/-- The second result is the codes. -/
theorem array10 : (dats m 0 c).arrAt 10 cfg0.N = codeArr (inputs m c) :=
  (dats m 0 c).arrAt_eq_of_cover 10 (codeArr (inputs m c)) (flushed10_eq m c) cover10

theorem index11 : ∀ t : Fin cfg0.N, cc0_transform_11 (grid0.coords t) = ![(img t.val).val, (blk t.val).val, 0, 0] :=
  (by decide +kernel : ∀ t : Fin grid0.N, cc0_transform_11 (grid0.coords t) = ![(img t.val).val, (blk t.val).val, 0, 0])

/-- A block of an array, read at an index. -/
theorem read11 (t : Fin cfg0.N) (f : Vec Ideal S12x176x8x304 .f32) : ∀ i, View.read (Elt Ideal) ((cfg0.win 11).blk t).view f i = f (((cfg0.win 11).blk t).view.emb i) :=
  fun _ => rfl

/-- A block that holds the specification's entries is the block of the whole array. -/
theorem cut11 (I : Inputs) (t : Fin cfg0.N) (X : Vec Ideal S1x4x8x304 .f32)
    (hX : ∀ (r : Fin 4) (w : Fin 8) (d : Fin 304), X (ix4 0 r w d) = I.scale (img t.val) ⟨4 * (blk t.val).val + r.val, by omega⟩ d w) :
    (cfg0.win 11).cut (grid0.coords t) X = View.read (Elt Ideal) ((cfg0.win 11).blk t).view (scaleArr I) := by
  funext i
  have h0 : (i 0).val < 1 := (i 0).isLt
  have h1 : (i 1).val < 4 := (i 1).isLt
  have h2 : (i 2).val < 8 := (i 2).isLt
  have h3 : (i 3).val < 304 := (i 3).isLt
  have e : (cfg0.win 11).cut (grid0.coords t) X i = X (ix4 0 ⟨(i 1).val, h1⟩ ⟨(i 2).val, h2⟩ ⟨(i 3).val, h3⟩) := by
    refine congrArg X (funext fun a => Fin.ext ?_)
    fin_cases a
    · exact Nat.lt_one_iff.mp h0
    · rfl
    · rfl
    · rfl
  have E : (ix4 (img t.val) ⟨4 * (blk t.val).val + (i 1).val, by omega⟩ ⟨(i 2).val, h2⟩ ⟨(i 3).val, h3⟩ : S12x176x8x304.Idx)
      = ((cfg0.win 11).blk t).view.emb i := by
    refine funext fun a => Fin.ext ?_
    fin_cases a
    · show (img t.val).val = cc0_transform_11 (grid0.coords t) 0 * 1 + 1 * (i 0).val
      rw [index11]; show _ = (img t.val).val * 1 + _; omega
    · show 4 * (blk t.val).val + (i 1).val = cc0_transform_11 (grid0.coords t) 1 * 4 + 1 * (i 1).val
      rw [index11]; show _ = (blk t.val).val * 4 + _; omega
    · show (i 2).val = cc0_transform_11 (grid0.coords t) 2 * 8 + 1 * (i 2).val
      rw [index11]; show _ = 0 * 8 + _; omega
    · show (i 3).val = cc0_transform_11 (grid0.coords t) 3 * 304 + 1 * (i 3).val
      rw [index11]; show _ = 0 * 304 + _; omega
  exact (e.trans (hX ⟨(i 1).val, h1⟩ ⟨(i 2).val, h2⟩ ⟨(i 3).val, h3⟩)).trans
    ((scaleArr_ix I _ _ _ _).symm.trans ((congrArg (scaleArr I) E).trans (read11 t (scaleArr I) i).symm))

/-- What a point writes back is its block of the whole array. -/
theorem flushed11_eq (t : Fin cfg0.N) (h : (cfg0.win 11).flush t = true) :
    (dats m 0 c).flushed 11 t = View.read (Elt Ideal) ((cfg0.win 11).blk t).view (scaleArr (inputs m c)) :=
  (flushed11 m c t).trans (cut11 (inputs m c) t _ (fun r w d => point_sc (blocks m c) t r w d))

theorem mem11 (t : Fin cfg0.N) (i : S12x176x8x304.Idx) (h0 : (i 0).val = (img t.val).val) (h1 : (i 1).val / 4 = (blk t.val).val) :
    i ∈ ((cfg0.win 11).blk t).view.set := by
  show i ∈ ((View.whole main_v23_2).slice (win0_11.rect t)).set
  rw [View.set_slice_whole, Rect.mem_set_unit]
  have h2 : (i 2).val < 8 := (i 2).isLt
  have h3 : (i 3).val < 304 := (i 3).isLt
  intro a
  match a with
  | ⟨0, _⟩ =>
    show cc0_transform_11 (grid0.coords t) 0 * 1 ≤ (i 0).val ∧ (i 0).val < cc0_transform_11 (grid0.coords t) 0 * 1 + 1
    rw [index11]; show (img t.val).val * 1 ≤ _ ∧ _ < (img t.val).val * 1 + 1; omega
  | ⟨1, _⟩ =>
    show cc0_transform_11 (grid0.coords t) 1 * 4 ≤ (i 1).val ∧ (i 1).val < cc0_transform_11 (grid0.coords t) 1 * 4 + 4
    rw [index11]; show (blk t.val).val * 4 ≤ _ ∧ _ < (blk t.val).val * 4 + 4; omega
  | ⟨2, _⟩ =>
    show cc0_transform_11 (grid0.coords t) 2 * 8 ≤ (i 2).val ∧ (i 2).val < cc0_transform_11 (grid0.coords t) 2 * 8 + 8
    rw [index11]; show 0 * 8 ≤ _ ∧ _ < 0 * 8 + 8; omega
  | ⟨3, _⟩ =>
    show cc0_transform_11 (grid0.coords t) 3 * 304 ≤ (i 3).val ∧ (i 3).val < cc0_transform_11 (grid0.coords t) 3 * 304 + 304
    rw [index11]; show 0 * 304 ≤ _ ∧ _ < 0 * 304 + 304; omega

theorem cover11 (i : S12x176x8x304.Idx) : ∃ t : Fin cfg0.N, (cfg0.win 11).flush t = true ∧ i ∈ ((cfg0.win 11).blk t).view.set := by
  have hN : cfg0.N = 529 := N_0
  have h0 : (i 0).val < 12 := (i 0).isLt
  have h1 : (i 1).val < 176 := (i 1).isLt
  by_cases hl : 44 * (i 0).val + (i 1).val / 4 = 527
  · have ht : 528 < cfg0.N := by omega
    refine ⟨⟨528, ht⟩, (flush11 _).mpr (by show 528 ≠ 527; decide), mem11 _ i ?_ ?_⟩
    · show (i 0).val = min 528 527 / 44; omega
    · show (i 1).val / 4 = min 528 527 % 44; omega
  · have ht : 44 * (i 0).val + (i 1).val / 4 < cfg0.N := by omega
    refine ⟨⟨44 * (i 0).val + (i 1).val / 4, ht⟩, (flush11 _).mpr hl, mem11 _ i ?_ ?_⟩
    · show (i 0).val = min (44 * (i 0).val + (i 1).val / 4) 527 / 44; omega
    · show (i 1).val / 4 = min (44 * (i 0).val + (i 1).val / 4) 527 % 44; omega

/-- The third result is the scales. -/
theorem array11 : (dats m 0 c).arrAt 11 cfg0.N = scaleArr (inputs m c) :=
  (dats m 0 c).arrAt_eq_of_cover 11 (scaleArr (inputs m c)) (flushed11_eq m c) cover11

end Cert.Level2.Step

end
-- ==== Proof.Reference.lean ====
/- The reference's payloads at an index. -/
module

public import proofs.«01_k».proof.Proof.Spec
public import proofs.«01_k».proof.Proof.Gen.ReferenceIdeal.Skeleton

@[expose] public section

noncomputable section

namespace Cert.Level2.Ref

open Idealize.ShloMosaic Cert.ReferenceIdeal Cert.ReferenceIdeal.Gen

variable (I : Inputs) (v0 : Vec Ideal S12x176x304x96 .fp8e4m3) (v2 : Vec Ideal S96x256 .fp8e4m3) (v5 : Elt Ideal .f32)
  (v6 : Vec Ideal S256 .f32) (v12 : Vec Ideal S256 .f32) (v17 : Vec Ideal S12x88x152x256 .f32)

theorem mulf_at {s : Shape} {φ : FTy} (x y : FVec Ideal s φ) (j : s.Idx) : mulf x y j = (x j * y j : EReal) := rfl

/-- The index that a reduction of the last of five axes reads. -/
theorem lift_ix5 {n0 n1 n2 n3 n4 : ℕ} (h : (⟨5, ![n0, n1, n2, n3, n4]⟩ : Shape).Reduces [4] (⟨4, ![n0, n1, n2, n3]⟩ : Shape))
    (a : Fin n0) (b : Fin n1) (c : Fin n2) (d : Fin n3) (k : Fin ((⟨5, ![n0, n1, n2, n3, n4]⟩ : Shape).size 4)) :
    h.lift (ix4 a b c d) k = ix5 a b c d (⟨k.val, k.isLt⟩ : Fin n4) := by
  funext i; apply Fin.ext
  fin_cases i <;> rfl

/-- A maximum over the last of five axes, at an index. -/
theorem max_last {n0 n1 n2 n3 n4 : ℕ} (x : FVec Ideal ⟨5, ![n0, n1, n2, n3, n4]⟩ .f32)
    (h : (⟨5, ![n0, n1, n2, n3, n4]⟩ : Shape).Reduces [4] (⟨4, ![n0, n1, n2, n3]⟩ : Shape)) (hφ : FKind.Formats .f32)
    (hacc : 0xFF800000#32 = FKind.maximumf.neutral .f32 hφ) (a : Fin n0) (b : Fin n1) (c : Fin n2) (d : Fin n3) :
    multiReduction .maximumf [4] (⟨4, ![n0, n1, n2, n3]⟩ : Shape) x 0xFF800000#32 h hφ hacc (ix4 a b c d)
      = (Finset.univ.fold max ⊥ fun k : Fin n4 => x (ix5 a b c d k) : EReal) := by
  rw [Ideal.multiReduction_maximumf_single]
  have hb : (FloatOps.ofBits .f32 0xFF800000#32 : Ideal .f32) = (⊥ : EReal) := by
    show Ideal.ofBits .f32 0xFF800000#32 = ⊥; simp [Ideal.ofBits, Ideal.ieee]
  rw [hb]
  have hf : (x ∘ h.lift (ix4 a b c d)) = fun k : Fin n4 => x (ix5 a b c d k) := funext fun k => congrArg x (lift_ix5 h a b c d k)
  exact congrArg (fun f => Finset.fold max (⊥ : EReal) f (Finset.univ : Finset (Fin n4))) hf

/-- The loaded operands of the merged map are the arguments. -/
structure Loads : Prop where
  c : ∀ b h w k, v0 (ix4 b h w k) = I.c b h w k
  wl : ∀ k d, v2 (ix2 k d) = I.wl k d
  cs : v5 = I.cs
  sl : ∀ d, v6 (ix1 d) = I.sl d
  bl : ∀ d, v12 (ix1 d) = I.bl d
  m3 : ∀ b h w d, v17 (ix4 b h w d) = I.m3 b h w d

variable {I v0 v2 v5 v6 v12 v17} (L : Loads I v0 v2 v5 v6 v12 v17)

include L in
theorem map_at (b : Fin 12) (h : Fin 176) (w : Fin 304) (g : Fin 8) (k : Fin 32) :
    k0_pay1 v0 v2 v5 v6 v12 v17 (ix5 b h w g k) = I.map b h w (chan g k) := by
  pointwise [k0_pay1]
  simp only [L.c, L.wl, L.cs, L.sl, L.bl, L.m3]
  rfl

/-- The table of powers of two. -/
def powers : FVec Ideal S1x1x1x1x252 .f32 :=
  exp2 (subf (sitofp .f32 (iota .tc S1x1x1x1x252 32 [4] iota_S1x1x1x1x252_d4_w32)) (broadcast S1x1x1x1x252 (Scalar.ofBits .f32 0x42FC0000#32)))

/-- The block maxima over 448, of a map in blocks. -/
def amaxV (v22 : FVec Ideal S12x176x304x8x32 .f32) : FVec Ideal S12x176x304x8 .f32 :=
  mulf (multiReduction .maximumf [4] S12x176x304x8 (absf v22) 0xFF800000#32 reduces_S12x176x304x8x32_S12x176x304x8 (.inl rfl) rfl)
    (broadcast S12x176x304x8 (Scalar.ofBits .f32 0x3B124925#32))

/-- The powers of the table at most each entry, zero for the others. -/
def kept (v26 : FVec Ideal S12x176x304x8 .f32) : FVec Ideal S12x176x304x8x252 .f32 :=
  select (cmpf .ole (broadcastTo S12x176x304x8x252 powers broadcasts_S1x1x1x1x252_S12x176x304x8x252)
      (broadcastTo S12x176x304x8x252 (shapeCast S12x176x304x8x1 v26 shapeCasts_S12x176x304x8_S12x176x304x8x1) broadcasts_S12x176x304x8x1_S12x176x304x8x252))
    (broadcastTo S12x176x304x8x252 (shapeCast S1x1x1x1x252 powers shapeCasts_S1x1x1x1x252_S1x1x1x1x252) broadcasts_S1x1x1x1x252_S12x176x304x8x252)
    (broadcast S12x176x304x8x252 (Scalar.ofBits .f32 0x00000000#32))

theorem pay2_eq : k0_pay2 v0 v2 v5 v6 v12 v17 = multiReduction .maximumf [4] S12x176x304x8 (kept (amaxV (k0_pay1 v0 v2 v5 v6 v12 v17))) 0xFF800000#32
    reduces_S12x176x304x8x252_S12x176x304x8 (.inl rfl) rfl := rfl

theorem powers_at (j : Fin 252) : powers (ix5 0 0 0 0 j) = pw (j.val + 1) := by
  pointwise [powers]
  have e : (FloatOps.sitofp FTy.f32 (BitVec.ofNat 32 j.val) : Ideal .f32) = (((j.val : ℕ) : ℝ) : EReal) := by
    show (((BitVec.ofNat 32 j.val).toInt : ℝ) : EReal) = _
    have : (BitVec.ofNat 32 j.val).toNat = j.val := by rw [BitVec.toNat_ofNat]; omega
    rw [BitVec.toInt_eq_toNat_of_lt (by omega), this]; rfl
  have e2 : Ideal.ofBits .f32 1123811328#32 = ((126 : ℝ) : EReal) := by
    simp [Ideal.ofBits, Ideal.ieee, -EReal.coe_mul]; norm_num
  rw [e, e2, ← EReal.coe_sub]
  exact exp2_eq j.val j.isLt

theorem amaxV_at (v22 : FVec Ideal S12x176x304x8x32 .f32) (b : Fin 12) (h : Fin 176) (w : Fin 304) (g : Fin 8) :
    amaxV v22 (ix4 b h w g) = (Finset.univ.fold max ⊥ fun k : Fin 32 => max (v22 (ix5 b h w g k)) (-(v22 (ix5 b h w g k)))) * c448 := by
  unfold amaxV
  rw [mulf_at]
  have e := max_last (absf v22) reduces_S12x176x304x8x32_S12x176x304x8 (.inl rfl) rfl b h w g
  rw [e]
  rfl

theorem kept_at (v26 : FVec Ideal S12x176x304x8 .f32) (b : Fin 12) (h : Fin 176) (w : Fin 304) (g : Fin 8) (j : Fin 252) :
    kept v26 (ix5 b h w g j) = if powers (ix5 0 0 0 0 j) ≤ v26 (ix4 b h w g) then powers (ix5 0 0 0 0 j) else 0 := by
  pointwise [kept]

include L in
theorem below_at (b : Fin 12) (h : Fin 176) (w : Fin 304) (g : Fin 8) :
    k0_pay2 v0 v2 v5 v6 v12 v17 (ix4 b h w g) = pw (expo (I.amax b h w g)) := by
  rw [pay2_eq]
  have e := max_last (kept (amaxV (k0_pay1 v0 v2 v5 v6 v12 v17))) reduces_S12x176x304x8x252_S12x176x304x8 (.inl rfl) rfl b h w g
  rw [e]
  simp only [kept_at, amaxV_at, map_at L]
  exact below_eq (I.amax b h w g) (fun j => powers (ix5 0 0 0 0 j)) powers_at ⊥ bot_le

theorem one_eq : Ideal.ofBits .f32 0x3F800000#32 = 1 := by simp [Ideal.ofBits, Ideal.ieee, -EReal.coe_mul]; norm_num
theorem two_eq : Ideal.ofBits .f32 0x40000000#32 = 2 := by
  have : (2 : EReal) = ((2 : ℝ) : EReal) := by norm_cast
  rw [this]; simp [Ideal.ofBits, Ideal.ieee, -EReal.coe_mul]; norm_num

theorem scale_at (v40 : FVec Ideal S12x176x304x8 .f32) (b : Fin 12) (h : Fin 176) (w : Fin 304) (g : Fin 8) (y : EReal)
    (hy : v40 (ix4 b h w g) = pw (expo y)) : k0_pay3 v40 (ix4 b h w g) = scl y := by
  pointwise [k0_pay3]
  rw [hy, two_eq, scale_eq]

theorem code_at (v22 : FVec Ideal S12x176x304x8x32 .f32) (v40 : FVec Ideal S12x176x304x8 .f32) (b : Fin 12) (h : Fin 176) (w : Fin 304)
    (g : Fin 8) (k : Fin 32) (y : EReal) (hy : v40 (ix4 b h w g) = pw (expo y)) :
    k0_pay4 v22 v40 (ix5 b h w g k) = min hi448 (max lo448 (v22 (ix5 b h w g k) * rcp y)) := by
  pointwise [k0_pay4]
  rw [scale_at v40 b h w g y hy, div_scl]
  rfl

/-- The two intermediate vectors that the results are made from: the map in blocks and each block's power of two below. -/
structure Mid (I : Inputs) (v22 : FVec Ideal S12x176x304x8x32 .f32) (v40 : FVec Ideal S12x176x304x8 .f32) : Prop where
  map : ∀ b h w g k, v22 (ix5 b h w g k) = I.map b h w (chan g k)
  below : ∀ b h w g, v40 (ix4 b h w g) = pw (expo (I.amax b h w g))

include L in
theorem mid : Mid I (k0_pay1 v0 v2 v5 v6 v12 v17) (k0_pay2 v0 v2 v5 v6 v12 v17) := ⟨map_at L, below_at L⟩

variable {v22 : FVec Ideal S12x176x304x8x32 .f32} {v40 : FVec Ideal S12x176x304x8 .f32} (Q : Mid I v22 v40)

include Q in
theorem codes_at (b : Fin 12) (h : Fin 176) (w : Fin 304) (d : Fin 256) : k0_pay5 v22 v40 (ix4 b h w d) = I.code b h w d := by
  pointwise [k0_pay5]
  rw [code_at v22 v40 b h w _ _ _ (Q.below b h w _), Q.map]
  have : chan ⟨d.val / 32, by omega⟩ ⟨d.val % 32, by omega⟩ = d := Fin.ext (by simp only [chan]; omega)
  rw [this]
  rfl

include Q in
theorem scales_at (b : Fin 12) (h : Fin 176) (w : Fin 304) (g : Fin 8) : k0_pay6 v40 (ix4 b h g w) = I.scale b h w g := by
  pointwise [k0_pay6]
  exact scale_at v40 b h w g _ (Q.below b h w g)

include Q in
theorem padded_at (b : Fin 12) (y : Fin 178) (x : Fin 306) (d : Fin 256) : k0_pay7 v22 v40 (ix4 b y x d) = I.padded b y x d := by
  have z : (((0#32).toInt : ℝ) : EReal) = 0 := by simp
  have e (h : Fin 176) (w : Fin 304) : k0_pay4 v22 v40 (ix5 b h w ⟨d.val / 32, by omega⟩ ⟨d.val % 32, by omega⟩)
      * k0_pay3 v40 (ix4 b h w ⟨d.val / 32, by omega⟩) = I.deq b h w d := by
    rw [code_at v22 v40 b h w _ _ _ (Q.below b h w _), Q.map, scale_at v40 b h w _ _ (Q.below b h w _)]
    have : chan ⟨d.val / 32, by omega⟩ ⟨d.val % 32, by omega⟩ = d := Fin.ext (by simp only [chan]; omega)
    rw [this]
    rfl
  pointwise [k0_pay7]
  simp only [z, e]
  unfold Inputs.padded
  have hy := y.isLt
  have hx := x.isLt
  by_cases a1 : x.val < 305
  · rw [dif_pos a1]
    by_cases a2 : x.val < 1
    · rw [dif_pos a2, dif_neg (by omega)]
    · rw [dif_neg a2]
      by_cases a3 : y.val < 177
      · rw [dif_pos a3]
        by_cases a4 : y.val < 1
        · rw [dif_pos a4, dif_neg (by omega)]
        · rw [dif_neg a4, dif_pos (by omega)]
      · rw [dif_neg a3, dif_neg (by omega)]
  · rw [dif_neg a1, dif_neg (by omega)]

/-- One weight tile of the nine is the argument's. -/
def IsTile (I : Inputs) (v : Vec Ideal S1x1x256x256 .fp8e4m3) (dy dx : Fin 3) : Prop := ∀ k d, v (ix4 0 0 k d) = I.wo dy dx k d

section Conv

variable (v75 : FVec Ideal S12x178x306x256 .bf16) (b : Fin 12) (h : Fin 176) (w : Fin 304) (d : Fin 256)

/-- The flat position of a point of the map. -/
def flat : Fin 642048 := ⟨b.val * 53504 + h.val * 304 + w.val, by omega⟩

theorem flat_b : (flat b h w).val / 53504 = b.val := by simp only [flat]; omega
theorem flat_h : (flat b h w).val / 304 % 176 = h.val := by simp only [flat]; omega
theorem flat_w : (flat b h w).val % 304 = w.val := by simp only [flat]; omega

/-- The entry of the padded map under one tap. -/
def under (dy dx : Fin 3) (k : Fin 256) : EReal :=
  v75 (ix4 b (⟨h.val + dy.val, by omega⟩ : Fin 178) (⟨w.val + dx.val, by omega⟩ : Fin 306) k)

theorem pay9_at (j : Fin 642048) (hb : j.val / 53504 = b.val) (hh : j.val / 304 % 176 = h.val) (hw : j.val % 304 = w.val) :
    k0_pay9 v22 v40 (ix2 j d) = under (k0_pay7 v22 v40) b h w 0 0 d := by
  pointwise [k0_pay9]
  simp only [hb, hh, hw]
  rfl

theorem pay10_at (v76 : FVec Ideal S642048x256 .f32) (v78 : FVec Ideal S642048x256 .bf16)
    (t0 t1 t2 t3 t4 : Vec Ideal S1x1x256x256 .fp8e4m3)
    (j : Fin 642048) (hb : j.val / 53504 = b.val) (hh : j.val / 304 % 176 = h.val) (hw : j.val % 304 = w.val) :
    k0_pay10 v75 v76 v78 t0 t1 t2 t3 t4 (ix2 j d)
      = (v76 (ix2 j d) + ∑ k, v78 (ix2 j k) * t0 (ix4 0 0 k d) + ∑ k, under v75 b h w 0 1 k * t1 (ix4 0 0 k d)
        + ∑ k, under v75 b h w 0 2 k * t2 (ix4 0 0 k d) + ∑ k, under v75 b h w 1 0 k * t3 (ix4 0 0 k d)
        + ∑ k, under v75 b h w 1 1 k * t4 (ix4 0 0 k d) : EReal) := by
  pointwise [k0_pay10]
  simp only [hb, hh, hw, Nat.add_comm 1, Nat.add_comm 2]
  rfl

theorem pay11_at (j : Fin 642048) (hb : j.val / 53504 = b.val) (hh : j.val / 304 % 176 = h.val) (hw : j.val % 304 = w.val) :
    k0_pay11 v75 (ix2 j d) = under v75 b h w 1 2 d := by
  pointwise [k0_pay11]
  simp only [hb, hh, hw, Nat.add_comm 1, Nat.add_comm 2]
  rfl

theorem pay12_at (v111 : FVec Ideal S642048x256 .f32) (v113 : FVec Ideal S642048x256 .bf16)
    (t5 t6 t7 t8 : Vec Ideal S1x1x256x256 .fp8e4m3) (so bo : Vec Ideal S256 .f32) :
    k0_pay12 v75 v111 v113 t5 t6 t7 t8 so bo (ix4 b h w d)
      = ((v111 (ix2 (flat b h w) d) + ∑ k, v113 (ix2 (flat b h w) k) * t5 (ix4 0 0 k d) + ∑ k, under v75 b h w 2 0 k * t6 (ix4 0 0 k d)
        + ∑ k, under v75 b h w 2 1 k * t7 (ix4 0 0 k d) + ∑ k, under v75 b h w 2 2 k * t8 (ix4 0 0 k d)) * so (ix1 d) + bo (ix1 d) : EReal) := by
  pointwise [k0_pay12]
  simp only [Nat.add_comm 1, Nat.add_comm 2]
  rfl

end Conv

include Q in
theorem out_at (b : Fin 12) (h : Fin 176) (w : Fin 304) (d : Fin 256) (t0 t1 t2 t3 t4 t5 t6 t7 t8 : Vec Ideal S1x1x256x256 .fp8e4m3)
    (so bo : Vec Ideal S256 .f32) (h0 : IsTile I t0 0 0) (h1 : IsTile I t1 0 1) (h2 : IsTile I t2 0 2) (h3 : IsTile I t3 1 0)
    (h4 : IsTile I t4 1 1) (h5 : IsTile I t5 1 2) (h6 : IsTile I t6 2 0) (h7 : IsTile I t7 2 1) (h8 : IsTile I t8 2 2)
    (hso : ∀ d, so (ix1 d) = I.so d) (hbo : ∀ d, bo (ix1 d) = I.bo d) :
    k0_pay12 (k0_pay7 v22 v40) (k0_pay10 (k0_pay7 v22 v40) k0_pay8 (k0_pay9 v22 v40) t0 t1 t2 t3 t4) (k0_pay11 (k0_pay7 v22 v40))
      t5 t6 t7 t8 so bo (ix4 b h w d) = I.out b h w d := by
  have fb := flat_b b h w
  have fh := flat_h b h w
  have fw := flat_w b h w
  have e (dy dx : Fin 3) (k : Fin 256) : under (k0_pay7 v22 v40) b h w dy dx k = I.padded b (h.val + dy.val) (w.val + dx.val) k :=
    padded_at Q b _ _ k
  have z : (k0_pay8 (F := Ideal)) (ix2 (flat b h w) d) = (0 : EReal) := by pointwise [k0_pay8]
  rw [pay12_at, pay10_at _ b h w d _ _ _ _ _ _ _ _ fb fh fw, z]
  simp only [pay9_at b h w _ _ fb fh fw, pay11_at _ b h w _ _ fb fh fw, e, h0 _ _, h1 _ _, h2 _ _, h3 _ _, h4 _ _, h5 _ _, h6 _ _, h7 _ _,
    h8 _ _, hso, hbo, zero_add]
  rfl

end Cert.Level2.Ref

end
-- ==== Proof.ReferenceArrays.lean ====
/- The three arrays that the reference leaves: its one body's values of the arguments. -/
module

public import proofs.«01_k».proof.Proof.Reference
public import proofs.«01_k».proof.Proof.Gen.ReferenceIdeal.Value

@[expose] public section

set_option maxHeartbeats 1000000

noncomputable section

namespace Cert.Level2.Ref

open Idealize.ShloMosaic Idealize.ShloMosaic.TcCoe Idealize.SL.Sem Cert.ReferenceIdeal Cert.ReferenceIdeal.Gen Cert.ReferenceIdeal.Value

/-- Offsets that are all zero. -/
theorem zero4 : (![0, 0, 0, 0] : Fin 4 → ℕ) = fun _ => 0 := by decide
theorem zero2 : (![0, 0] : Fin 2 → ℕ) = fun _ => 0 := by decide
theorem zero1 : (![0] : Fin 1 → ℕ) = fun _ => 0 := by decide

section Body

variable {F : FTy → Type} [FloatOps F]

variable (c : Dev nD) (arg0 : Memref sig .tc .smem S1 .f32) (harg0 : arg0.IsWhole) (arg1 : Memref sig .tc .vmem S12x176x304x96 .fp8e4m3) (harg1 : arg1.IsWhole) (arg2 : Memref sig .tc .vmem S12x88x152x256 .f32) (harg2 : arg2.IsWhole) (arg3 : Memref sig .tc .vmem S96x256 .fp8e4m3) (harg3 : arg3.IsWhole) (arg4 : Memref sig .tc .vmem S256 .f32) (harg4 : arg4.IsWhole) (arg5 : Memref sig .tc .vmem S256 .f32) (harg5 : arg5.IsWhole) (arg6 : Memref sig .tc .vmem S3x3x256x256 .fp8e4m3) (harg6 : arg6.IsWhole) (arg7 : Memref sig .tc .vmem S256 .f32) (harg7 : arg7.IsWhole) (arg8 : Memref sig .tc .vmem S256 .f32) (harg8 : arg8.IsWhole) (arg9 : Memref sig .tc .vmem S12x176x304x256 .bf16) (harg9 : arg9.IsWhole) (arg10 : Memref sig .tc .vmem S12x176x304x256 .fp8e4m3) (harg10 : arg10.IsWhole) (arg11 : Memref sig .tc .vmem S12x176x8x304 .f32) (harg11 : arg11.IsWhole)
  (x0 : Vec F S1 .f32) (x1 : Vec F S12x176x304x96 .fp8e4m3) (x2 : Vec F S12x88x152x256 .f32) (x3 : Vec F S96x256 .fp8e4m3) (x4 : Vec F S256 .f32) (x5 : Vec F S256 .f32) (x6 : Vec F S3x3x256x256 .fp8e4m3) (x7 : Vec F S256 .f32) (x8 : Vec F S256 .f32)

/-- The nine weight tiles, one to a tap. -/
def tile00 (x6 : Vec F S3x3x256x256 .fp8e4m3) : Vec F S1x1x256x256 .fp8e4m3 :=
  View.ld x6 (Rect.unit (s := S3x3x256x256) ![0, 0, 0, 0] S1x1x256x256.size inb_S3x3x256x256_S1x1x256x256_0_0_0_0)
def tile01 (x6 : Vec F S3x3x256x256 .fp8e4m3) : Vec F S1x1x256x256 .fp8e4m3 :=
  View.ld x6 (Rect.unit (s := S3x3x256x256) ![0, 1, 0, 0] S1x1x256x256.size inb_S3x3x256x256_S1x1x256x256_0_1_0_0)
def tile02 (x6 : Vec F S3x3x256x256 .fp8e4m3) : Vec F S1x1x256x256 .fp8e4m3 :=
  View.ld x6 (Rect.unit (s := S3x3x256x256) ![0, 2, 0, 0] S1x1x256x256.size inb_S3x3x256x256_S1x1x256x256_0_2_0_0)
def tile10 (x6 : Vec F S3x3x256x256 .fp8e4m3) : Vec F S1x1x256x256 .fp8e4m3 :=
  View.ld x6 (Rect.unit (s := S3x3x256x256) ![1, 0, 0, 0] S1x1x256x256.size inb_S3x3x256x256_S1x1x256x256_1_0_0_0)
def tile11 (x6 : Vec F S3x3x256x256 .fp8e4m3) : Vec F S1x1x256x256 .fp8e4m3 :=
  View.ld x6 (Rect.unit (s := S3x3x256x256) ![1, 1, 0, 0] S1x1x256x256.size inb_S3x3x256x256_S1x1x256x256_1_1_0_0)
def tile12 (x6 : Vec F S3x3x256x256 .fp8e4m3) : Vec F S1x1x256x256 .fp8e4m3 :=
  View.ld x6 (Rect.unit (s := S3x3x256x256) ![1, 2, 0, 0] S1x1x256x256.size inb_S3x3x256x256_S1x1x256x256_1_2_0_0)
def tile20 (x6 : Vec F S3x3x256x256 .fp8e4m3) : Vec F S1x1x256x256 .fp8e4m3 :=
  View.ld x6 (Rect.unit (s := S3x3x256x256) ![2, 0, 0, 0] S1x1x256x256.size inb_S3x3x256x256_S1x1x256x256_2_0_0_0)
def tile21 (x6 : Vec F S3x3x256x256 .fp8e4m3) : Vec F S1x1x256x256 .fp8e4m3 :=
  View.ld x6 (Rect.unit (s := S3x3x256x256) ![2, 1, 0, 0] S1x1x256x256.size inb_S3x3x256x256_S1x1x256x256_2_1_0_0)
def tile22 (x6 : Vec F S3x3x256x256 .fp8e4m3) : Vec F S1x1x256x256 .fp8e4m3 :=
  View.ld x6 (Rect.unit (s := S3x3x256x256) ![2, 2, 0, 0] S1x1x256x256.size inb_S3x3x256x256_S1x1x256x256_2_2_0_0)

/-- The one number of a vector of one. -/
def only (x0 : Vec F S1 .f32) : Elt F .f32 :=
  View.ld x0 (Rect.unit (s := S1) ![0] S1.size inb_S1_S1_0) (Shape.Idx.first (by decide))

/-- The map in blocks, and each block's power of two below. -/
def blocksOf (x0 : Vec F S1 .f32) (x1 : Vec F S12x176x304x96 .fp8e4m3) (x2 : Vec F S12x88x152x256 .f32) (x3 : Vec F S96x256 .fp8e4m3)
    (x4 x5 : Vec F S256 .f32) : FVec F S12x176x304x8x32 .f32 := k0_pay1 x1 x3 (only x0) x4 x5 x2
def belowOf (x0 : Vec F S1 .f32) (x1 : Vec F S12x176x304x96 .fp8e4m3) (x2 : Vec F S12x88x152x256 .f32) (x3 : Vec F S96x256 .fp8e4m3)
    (x4 x5 : Vec F S256 .f32) : FVec F S12x176x304x8 .f32 := k0_pay2 x1 x3 (only x0) x4 x5 x2

/-- The body's one write of the convolution. -/
theorem out_pieces : (kernelRun0_A c arg0 harg0 arg1 harg1 arg2 harg2 arg3 harg3 arg4 harg4 arg5 harg5 arg6 harg6 arg7 harg7 arg8 harg8 arg9 harg9 arg10 harg10 arg11 harg11 x0 x1 x2 x3 x4 x5 x6 x7 x8).1
    = [⟨Rect.unit (s := S12x176x304x256) ![0, 0, 0, 0] S12x176x304x256.size inb_S12x176x304x256_S12x176x304x256_0_0_0_0,
      k0_pay12 (k0_pay7 (blocksOf x0 x1 x2 x3 x4 x5) (belowOf x0 x1 x2 x3 x4 x5)) (k0_pay10 (k0_pay7 (blocksOf x0 x1 x2 x3 x4 x5) (belowOf x0 x1 x2 x3 x4 x5)) k0_pay8 (k0_pay9 (blocksOf x0 x1 x2 x3 x4 x5) (belowOf x0 x1 x2 x3 x4 x5)) (tile00 x6) (tile01 x6) (tile02 x6) (tile10 x6) (tile11 x6)) (k0_pay11 (k0_pay7 (blocksOf x0 x1 x2 x3 x4 x5) (belowOf x0 x1 x2 x3 x4 x5))) (tile12 x6) (tile20 x6) (tile21 x6) (tile22 x6) x7 x8⟩] := by
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, View.ld_unit_zero (S := S12x176x304x96) zero4, View.ld_unit_zero (S := S12x88x152x256) zero4, View.ld_unit_zero (S := S96x256) zero2, View.ld_unit_zero (S := S256) zero1, View.ld_unit_zero (S := S1) zero1]
  rfl

/-- What the body leaves in that output, as one function of the operands. -/
theorem out_body : out0_A_9 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 = k0_pay12 (k0_pay7 (blocksOf x0 x1 x2 x3 x4 x5) (belowOf x0 x1 x2 x3 x4 x5)) (k0_pay10 (k0_pay7 (blocksOf x0 x1 x2 x3 x4 x5) (belowOf x0 x1 x2 x3 x4 x5)) k0_pay8 (k0_pay9 (blocksOf x0 x1 x2 x3 x4 x5) (belowOf x0 x1 x2 x3 x4 x5)) (tile00 x6) (tile01 x6) (tile02 x6) (tile10 x6) (tile11 x6)) (k0_pay11 (k0_pay7 (blocksOf x0 x1 x2 x3 x4 x5) (belowOf x0 x1 x2 x3 x4 x5))) (tile12 x6) (tile20 x6) (tile21 x6) (tile22 x6) x7 x8 := by
  unfold out0_A_9
  rw [View.read_writes_junk_eq_canon, out_pieces, View.canon_unit_zero zero4]

/-- The body's one write of the codes. -/
theorem codes_pieces : (kernelRun0_A c arg0 harg0 arg1 harg1 arg2 harg2 arg3 harg3 arg4 harg4 arg5 harg5 arg6 harg6 arg7 harg7 arg8 harg8 arg9 harg9 arg10 harg10 arg11 harg11 x0 x1 x2 x3 x4 x5 x6 x7 x8).2.1
    = [⟨Rect.unit (s := S12x176x304x256) ![0, 0, 0, 0] S12x176x304x256.size inb_S12x176x304x256_S12x176x304x256_0_0_0_0,
      k0_pay5 (blocksOf x0 x1 x2 x3 x4 x5) (belowOf x0 x1 x2 x3 x4 x5)⟩] := by
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, View.ld_unit_zero (S := S12x176x304x96) zero4, View.ld_unit_zero (S := S12x88x152x256) zero4, View.ld_unit_zero (S := S96x256) zero2, View.ld_unit_zero (S := S256) zero1, View.ld_unit_zero (S := S1) zero1]
  rfl

/-- What the body leaves in that output, as one function of the operands. -/
theorem codes_body : out0_A_10 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 = k0_pay5 (blocksOf x0 x1 x2 x3 x4 x5) (belowOf x0 x1 x2 x3 x4 x5) := by
  unfold out0_A_10
  rw [View.read_writes_junk_eq_canon, codes_pieces, View.canon_unit_zero zero4]

/-- The body's one write of the scales. -/
theorem scales_pieces : (kernelRun0_A c arg0 harg0 arg1 harg1 arg2 harg2 arg3 harg3 arg4 harg4 arg5 harg5 arg6 harg6 arg7 harg7 arg8 harg8 arg9 harg9 arg10 harg10 arg11 harg11 x0 x1 x2 x3 x4 x5 x6 x7 x8).2.2.1
    = [⟨Rect.unit (s := S12x176x8x304) ![0, 0, 0, 0] S12x176x8x304.size inb_S12x176x8x304_S12x176x8x304_0_0_0_0,
      k0_pay6 (belowOf x0 x1 x2 x3 x4 x5)⟩] := by
  unfold kernelRun0_A
  dsimp only
  sl_unfold_words
  simp only [View.readAt_eq_ld, harg0.read_unread, harg1.read_unread, harg2.read_unread, harg3.read_unread, harg4.read_unread, harg5.read_unread, harg6.read_unread, harg7.read_unread, harg8.read_unread, View.ld_unit_zero (S := S12x176x304x96) zero4, View.ld_unit_zero (S := S12x88x152x256) zero4, View.ld_unit_zero (S := S96x256) zero2, View.ld_unit_zero (S := S256) zero1, View.ld_unit_zero (S := S1) zero1]
  rfl

/-- What the body leaves in that output, as one function of the operands. -/
theorem scales_body : out0_A_11 c arg0 harg0 arg1 harg1 arg2 harg2 arg3 harg3 arg4 harg4 arg5 harg5 arg6 harg6 arg7 harg7 arg8 harg8 arg9 harg9 arg10 harg10 arg11 harg11 x0 x1 x2 x3 x4 x5 x6 x7 x8 = k0_pay6 (belowOf x0 x1 x2 x3 x4 x5) := by
  unfold out0_A_11
  rw [View.read_writes_junk_eq_canon, scales_pieces, View.canon_unit_zero zero4]

end Body
variable (m : (ℓ : Loc nD τ sig) → Buf (Elt Ideal) ℓ) (c : Dev nD)

/-- The arguments, as the reference's run finds them. -/
abbrev arg0 : Vec Ideal S12x176x304x96 .fp8e4m3 := m ((c : Thread nD τ).loc main_arg0)
abbrev arg1 : Vec Ideal S1 .f32 := m ((c : Thread nD τ).loc main_arg1)
abbrev arg2 : Vec Ideal S12x88x152x256 .f32 := m ((c : Thread nD τ).loc main_arg2)
abbrev arg3 : Vec Ideal S96x256 .fp8e4m3 := m ((c : Thread nD τ).loc main_arg3)
abbrev arg4 : Vec Ideal S256 .f32 := m ((c : Thread nD τ).loc main_arg4)
abbrev arg5 : Vec Ideal S256 .f32 := m ((c : Thread nD τ).loc main_arg5)
abbrev arg6 : Vec Ideal S3x3x256x256 .fp8e4m3 := m ((c : Thread nD τ).loc main_arg6)
abbrev arg7 : Vec Ideal S256 .f32 := m ((c : Thread nD τ).loc main_arg7)
abbrev arg8 : Vec Ideal S256 .f32 := m ((c : Thread nD τ).loc main_arg8)

/-- The arguments by their coordinates. -/
def inputs : Inputs where
  c b h w k := arg0 m c (ix4 b h w k)
  cs := arg1 m c (ix1 0)
  m3 b h w d := arg2 m c (ix4 b h w d)
  wl k d := arg3 m c (ix2 k d)
  sl d := arg4 m c (ix1 d)
  bl d := arg5 m c (ix1 d)
  wo dy dx k d := arg6 m c (ix4 dy dx k d)
  so d := arg7 m c (ix1 d)
  bo d := arg8 m c (ix1 d)

/-- The block of a window over a whole array is the array. -/
theorem iblk0 (t : Fin cfg0.N) : (iblk m c 0 t : Vec Ideal S1 .f32) = arg1 m c :=
  Memref.read_access_unit_zero (Elt Ideal) main_arg1 (funext fun a => by fin_cases a <;> rfl) _ _
theorem iblk1 (t : Fin cfg0.N) : (iblk m c 1 t : Vec Ideal S12x176x304x96 .fp8e4m3) = arg0 m c :=
  Memref.read_access_unit_zero (Elt Ideal) main_arg0 (funext fun a => by fin_cases a <;> rfl) _ _
theorem iblk2 (t : Fin cfg0.N) : (iblk m c 2 t : Vec Ideal S12x88x152x256 .f32) = arg2 m c :=
  Memref.read_access_unit_zero (Elt Ideal) main_arg2 (funext fun a => by fin_cases a <;> rfl) _ _
theorem iblk3 (t : Fin cfg0.N) : (iblk m c 3 t : Vec Ideal S96x256 .fp8e4m3) = arg3 m c :=
  Memref.read_access_unit_zero (Elt Ideal) main_arg3 (funext fun a => by fin_cases a <;> rfl) _ _
theorem iblk4 (t : Fin cfg0.N) : (iblk m c 4 t : Vec Ideal S256 .f32) = arg4 m c :=
  Memref.read_access_unit_zero (Elt Ideal) main_arg4 (funext fun a => by fin_cases a <;> rfl) _ _
theorem iblk5 (t : Fin cfg0.N) : (iblk m c 5 t : Vec Ideal S256 .f32) = arg5 m c :=
  Memref.read_access_unit_zero (Elt Ideal) main_arg5 (funext fun a => by fin_cases a <;> rfl) _ _
theorem iblk6 (t : Fin cfg0.N) : (iblk m c 6 t : Vec Ideal S3x3x256x256 .fp8e4m3) = arg6 m c :=
  Memref.read_access_unit_zero (Elt Ideal) main_arg6 (funext fun a => by fin_cases a <;> rfl) _ _
theorem iblk7 (t : Fin cfg0.N) : (iblk m c 7 t : Vec Ideal S256 .f32) = arg7 m c :=
  Memref.read_access_unit_zero (Elt Ideal) main_arg7 (funext fun a => by fin_cases a <;> rfl) _ _
theorem iblk8 (t : Fin cfg0.N) : (iblk m c 8 t : Vec Ideal S256 .f32) = arg8 m c :=
  Memref.read_access_unit_zero (Elt Ideal) main_arg8 (funext fun a => by fin_cases a <;> rfl) _ _

/-- The body's operands of the merged map are the arguments. -/
theorem loads : Loads (inputs m c) (arg0 m c) (arg3 m c) (only (arg1 m c)) (arg4 m c) (arg5 m c) (arg2 m c) where
  c _ _ _ _ := rfl
  wl _ _ := rfl
  cs := congrArg (arg1 m c) (funext fun a => by fin_cases a; rfl)
  sl _ := rfl
  bl _ := rfl
  m3 _ _ _ _ := rfl

/-- The body's map in blocks and its powers of two are the specification's. -/
theorem mids : Mid (inputs m c) (blocksOf (arg1 m c) (arg0 m c) (arg2 m c) (arg3 m c) (arg4 m c) (arg5 m c))
    (belowOf (arg1 m c) (arg0 m c) (arg2 m c) (arg3 m c) (arg4 m c) (arg5 m c)) := mid (loads m c)

/-- The one grid point. -/
def t₀ : Fin cfg0.N := ⟨0, by decide⟩

/-- Each weight tile is the weights' at its tap. -/
theorem isTile00 : IsTile (inputs m c) (tile00 (arg6 m c)) 0 0 := fun k d =>
  congrArg (arg6 m c) (funext fun a => Fin.ext (by
    fin_cases a
    · rfl
    · rfl
    · show 0 + 1 * k.val = k.val; omega
    · show 0 + 1 * d.val = d.val; omega))
theorem isTile01 : IsTile (inputs m c) (tile01 (arg6 m c)) 0 1 := fun k d =>
  congrArg (arg6 m c) (funext fun a => Fin.ext (by
    fin_cases a
    · rfl
    · rfl
    · show 0 + 1 * k.val = k.val; omega
    · show 0 + 1 * d.val = d.val; omega))
theorem isTile02 : IsTile (inputs m c) (tile02 (arg6 m c)) 0 2 := fun k d =>
  congrArg (arg6 m c) (funext fun a => Fin.ext (by
    fin_cases a
    · rfl
    · rfl
    · show 0 + 1 * k.val = k.val; omega
    · show 0 + 1 * d.val = d.val; omega))
theorem isTile10 : IsTile (inputs m c) (tile10 (arg6 m c)) 1 0 := fun k d =>
  congrArg (arg6 m c) (funext fun a => Fin.ext (by
    fin_cases a
    · rfl
    · rfl
    · show 0 + 1 * k.val = k.val; omega
    · show 0 + 1 * d.val = d.val; omega))
theorem isTile11 : IsTile (inputs m c) (tile11 (arg6 m c)) 1 1 := fun k d =>
  congrArg (arg6 m c) (funext fun a => Fin.ext (by
    fin_cases a
    · rfl
    · rfl
    · show 0 + 1 * k.val = k.val; omega
    · show 0 + 1 * d.val = d.val; omega))
theorem isTile12 : IsTile (inputs m c) (tile12 (arg6 m c)) 1 2 := fun k d =>
  congrArg (arg6 m c) (funext fun a => Fin.ext (by
    fin_cases a
    · rfl
    · rfl
    · show 0 + 1 * k.val = k.val; omega
    · show 0 + 1 * d.val = d.val; omega))
theorem isTile20 : IsTile (inputs m c) (tile20 (arg6 m c)) 2 0 := fun k d =>
  congrArg (arg6 m c) (funext fun a => Fin.ext (by
    fin_cases a
    · rfl
    · rfl
    · show 0 + 1 * k.val = k.val; omega
    · show 0 + 1 * d.val = d.val; omega))
theorem isTile21 : IsTile (inputs m c) (tile21 (arg6 m c)) 2 1 := fun k d =>
  congrArg (arg6 m c) (funext fun a => Fin.ext (by
    fin_cases a
    · rfl
    · rfl
    · show 0 + 1 * k.val = k.val; omega
    · show 0 + 1 * d.val = d.val; omega))
theorem isTile22 : IsTile (inputs m c) (tile22 (arg6 m c)) 2 2 := fun k d =>
  congrArg (arg6 m c) (funext fun a => Fin.ext (by
    fin_cases a
    · rfl
    · rfl
    · show 0 + 1 * k.val = k.val; omega
    · show 0 + 1 * d.val = d.val; omega))

/-- The three results as whole arrays. -/
def outArr (I : Inputs) : Vec Ideal S12x176x304x256 .bf16 := fun i => I.out (i 0) (i 1) (i 2) (i 3)
def codeArr (I : Inputs) : Vec Ideal S12x176x304x256 .fp8e4m3 := fun i => I.code (i 0) (i 1) (i 2) (i 3)
def scaleArr (I : Inputs) : Vec Ideal S12x176x8x304 .f32 := fun i => I.scale (i 0) (i 1) (i 3) (i 2)

/-- At the arguments it is the specification's array. -/
theorem out_value : out0_A_9 c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (arg1 m c) (arg0 m c) (arg2 m c) (arg3 m c) (arg4 m c) (arg5 m c) (arg6 m c) (arg7 m c) (arg8 m c) = outArr (inputs m c) := by
  rw [out_body]
  funext i
  rw [eq_ix4 i]
  exact out_at (mids m c) (i 0) (i 1) (i 2) (i 3) _ _ _ _ _ _ _ _ _ _ _ (isTile00 m c) (isTile01 m c) (isTile02 m c) (isTile10 m c) (isTile11 m c)
    (isTile12 m c) (isTile20 m c) (isTile21 m c) (isTile22 m c) (fun _ => rfl) (fun _ => rfl)

/-- The first result. -/
theorem array9 : (dats m 0 c).arrAt 9 cfg0.N = outArr (inputs m c) := by
  have ho := blocks9 m c t₀ (flush0_9 t₀)
  have hr := fun f => Memref.read_access_unit_zero (Elt Ideal) main_v0_0 (off := fun a => (win0_9.index t₀) a * main_v0_0.ty.shape.size a)
    (funext fun a => by fin_cases a <;> rfl) (fun a => by fin_cases a <;> decide) f
  rw [hr] at ho
  rw [ho, flushed9_A m c t₀, iblk0, iblk1, iblk2, iblk3, iblk4, iblk5, iblk6, iblk7, iblk8, out_value]
  rfl

/-- At the arguments it is the specification's array. -/
theorem codes_value : out0_A_10 c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (arg1 m c) (arg0 m c) (arg2 m c) (arg3 m c) (arg4 m c) (arg5 m c) (arg6 m c) (arg7 m c) (arg8 m c) = codeArr (inputs m c) := by
  rw [codes_body]
  funext i
  rw [eq_ix4 i]
  exact codes_at (mids m c) (i 0) (i 1) (i 2) (i 3)

/-- The second result. -/
theorem array10 : (dats m 0 c).arrAt 10 cfg0.N = codeArr (inputs m c) := by
  have ho := blocks10 m c t₀ (flush0_10 t₀)
  have hr := fun f => Memref.read_access_unit_zero (Elt Ideal) main_v0_1 (off := fun a => (win0_10.index t₀) a * main_v0_1.ty.shape.size a)
    (funext fun a => by fin_cases a <;> rfl) (fun a => by fin_cases a <;> decide) f
  rw [hr] at ho
  rw [ho, flushed10_A m c t₀, iblk0, iblk1, iblk2, iblk3, iblk4, iblk5, iblk6, iblk7, iblk8, codes_value]
  rfl

/-- At the arguments it is the specification's array. -/
theorem scales_value : out0_A_11 c (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) (ms0_8 t₀) (hs0_8 t₀) (ms0_9 t₀) (hs0_9 t₀) (ms0_10 t₀) (hs0_10 t₀) (ms0_11 t₀) (hs0_11 t₀) (arg1 m c) (arg0 m c) (arg2 m c) (arg3 m c) (arg4 m c) (arg5 m c) (arg6 m c) (arg7 m c) (arg8 m c) = scaleArr (inputs m c) := by
  rw [scales_body]
  funext i
  rw [eq_ix4 i]
  exact scales_at (mids m c) (i 0) (i 1) (i 3) (i 2)

/-- The third result. -/
theorem array11 : (dats m 0 c).arrAt 11 cfg0.N = scaleArr (inputs m c) := by
  have ho := blocks11 m c t₀ (flush0_11 t₀)
  have hr := fun f => Memref.read_access_unit_zero (Elt Ideal) main_v0_2 (off := fun a => (win0_11.index t₀) a * main_v0_2.ty.shape.size a)
    (funext fun a => by fin_cases a <;> rfl) (fun a => by fin_cases a <;> decide) f
  rw [hr] at ho
  rw [ho, flushed11_A m c t₀, iblk0, iblk1, iblk2, iblk3, iblk4, iblk5, iblk6, iblk7, iblk8, scales_value]
  rfl

end Cert.Level2.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Arrays
public import proofs.«01_k».proof.Proof.ReferenceArrays
public import Idealize.ShloMosaic.Adequacy
public import Idealize.ShloMosaic.Init

@[expose] public section

noncomputable section

namespace Cert.Proof

open Idealize.ShloMosaic Idealize.SL.Sem Cert.Kernel

/-- Equal arguments are equal inputs of the specification. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Level2.Ref.arg0 m' c = m ((c.tc : Thread Cert.KernelIdeal.nD Cert.KernelIdeal.τ).loc Cert.KernelIdeal.main_arg0))
    (h1 : Level2.Ref.arg1 m' c = m ((c.tc : Thread Cert.KernelIdeal.nD Cert.KernelIdeal.τ).loc Cert.KernelIdeal.main_arg1))
    (h2 : Level2.Ref.arg2 m' c = m ((c.tc : Thread Cert.KernelIdeal.nD Cert.KernelIdeal.τ).loc Cert.KernelIdeal.main_arg2))
    (h3 : Level2.Ref.arg3 m' c = m ((c.tc : Thread Cert.KernelIdeal.nD Cert.KernelIdeal.τ).loc Cert.KernelIdeal.main_arg3))
    (h4 : Level2.Ref.arg4 m' c = m ((c.tc : Thread Cert.KernelIdeal.nD Cert.KernelIdeal.τ).loc Cert.KernelIdeal.main_arg4))
    (h5 : Level2.Ref.arg5 m' c = m ((c.tc : Thread Cert.KernelIdeal.nD Cert.KernelIdeal.τ).loc Cert.KernelIdeal.main_arg5))
    (h6 : Level2.Ref.arg6 m' c = m ((c.tc : Thread Cert.KernelIdeal.nD Cert.KernelIdeal.τ).loc Cert.KernelIdeal.main_arg6))
    (h7 : Level2.Ref.arg7 m' c = m ((c.tc : Thread Cert.KernelIdeal.nD Cert.KernelIdeal.τ).loc Cert.KernelIdeal.main_arg7))
    (h8 : Level2.Ref.arg8 m' c = m ((c.tc : Thread Cert.KernelIdeal.nD Cert.KernelIdeal.τ).loc Cert.KernelIdeal.main_arg8)) :
    Level2.Ref.inputs m' c = Level2.Step.inputs m c := by
  unfold Level2.Ref.inputs
  rw [h0, h1, h2, h3, h4, h5, h6, h7, h8]
  rfl

/-- Kernel and reference leave the same three arrays: each the specification's function of the arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Level2.outArr (Level2.Step.inputs m c), fun c => Level2.codeArr (Level2.Step.inputs m c),
    fun c => Level2.scaleArr (Level2.Step.inputs m c), ?_, ?_⟩
  · refine (θ_run _ _ _).mono (fun r h c => ?_) (Cert.KernelIdeal.Value.run_blocks m g)
    obtain ⟨h0, h1, h2, hk⟩ := h c
    exact ⟨h0.trans (Level2.Step.array9 m c), h1.trans (Level2.Step.array10 m c), h2.trans (Level2.Step.array11 m c), hk⟩
  · refine (θ_run _ _ _).mono (fun r h c => ?_) (Cert.ReferenceIdeal.Value.run_blocks m' g')
    obtain ⟨h0, h1, h2, hk⟩ := h c
    obtain ⟨a0, a1, a2, a3, a4, a5, a6, a7, a8⟩ := hargs c
    have e := inputs_eq m m' c a0 a1 a2 a3 a4 a5 a6 a7 a8
    exact ⟨h0.trans ((Level2.Ref.array9 m' c).trans (congrArg Level2.outArr e)), h1.trans ((Level2.Ref.array10 m' c).trans (congrArg Level2.codeArr e)),
      h2.trans ((Level2.Ref.array11 m' c).trans (congrArg Level2.scaleArr e)), hk⟩

/-- Everything the certificate claims: the three frames, the idealization's rewriting of nothing, and the equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
